-- ==== Defs.lean ====
def Pre_Kernel [hPre_rolled_by_1_Kernel : Cert.Pre_rolled_by_1_Kernel.Facts] (m : (ℓ : Loc Cert.Kernel.nD Cert.Kernel.τ Cert.Kernel.sig) → Buf (Elt Bits) ℓ) : Prop :=
  ∀ c : Dev Cert.Kernel.nD,
    (Cert.Pre_rolled_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_2_Kernel [hPre_rolled_by_2_Kernel : Cert.Pre_rolled_by_2_Kernel.Facts] (m : (ℓ : Loc Cert.Kernel.nD Cert.Kernel.τ Cert.Kernel.sig) → Buf (Elt Bits) ℓ) : Prop :=
  ∀ c : Dev Cert.Kernel.nD,
    (Cert.Pre_rolled_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_3_Kernel [hPre_rolled_by_3_Kernel : Cert.Pre_rolled_by_3_Kernel.Facts] (m : (ℓ : Loc Cert.Kernel.nD Cert.Kernel.τ Cert.Kernel.sig) → Buf (Elt Bits) ℓ) : Prop :=
  ∀ c : Dev Cert.Kernel.nD,
    (Cert.Pre_rolled_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_4_Kernel [hPre_rolled_by_4_Kernel : Cert.Pre_rolled_by_4_Kernel.Facts] (m : (ℓ : Loc Cert.Kernel.nD Cert.Kernel.τ Cert.Kernel.sig) → Buf (Elt Bits) ℓ) : Prop :=
  ∀ c : Dev Cert.Kernel.nD,
    (Cert.Pre_rolled_by_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_5_Kernel [hPre_rolled_by_5_Kernel : Cert.Pre_rolled_by_5_Kernel.Facts] (m : (ℓ : Loc Cert.Kernel.nD Cert.Kernel.τ Cert.Kernel.sig) → Buf (Elt Bits) ℓ) : Prop :=
  ∀ c : Dev Cert.Kernel.nD,
    (Cert.Pre_rolled_by_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_6_Kernel [hPre_rolled_by_6_Kernel : Cert.Pre_rolled_by_6_Kernel.Facts] (m : (ℓ : Loc Cert.Kernel.nD Cert.Kernel.τ Cert.Kernel.sig) → Buf (Elt Bits) ℓ) : Prop :=
  ∀ c : Dev Cert.Kernel.nD,
    (Cert.Pre_rolled_by_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_7_Kernel [hPre_rolled_by_7_Kernel : Cert.Pre_rolled_by_7_Kernel.Facts] (m : (ℓ : Loc Cert.Kernel.nD Cert.Kernel.τ Cert.Kernel.sig) → Buf (Elt Bits) ℓ) : Prop :=
  ∀ c : Dev Cert.Kernel.nD,
    (Cert.Pre_rolled_by_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_by_1_Kernel : Cert.Pre_rolled_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_2_Kernel [hPre_rolled_by_2_Kernel : Cert.Pre_rolled_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_3_Kernel [hPre_rolled_by_3_Kernel : Cert.Pre_rolled_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_4_Kernel [hPre_rolled_by_4_Kernel : Cert.Pre_rolled_by_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_5_Kernel [hPre_rolled_by_5_Kernel : Cert.Pre_rolled_by_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_6_Kernel [hPre_rolled_by_6_Kernel : Cert.Pre_rolled_by_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_7_Kernel [hPre_rolled_by_7_Kernel : Cert.Pre_rolled_by_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_by_1_ReferenceIdeal [hPre_rolled_by_1_ReferenceIdeal : Cert.Pre_rolled_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_2_ReferenceIdeal [hPre_rolled_by_2_ReferenceIdeal : Cert.Pre_rolled_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_3_ReferenceIdeal [hPre_rolled_by_3_ReferenceIdeal : Cert.Pre_rolled_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_4_ReferenceIdeal [hPre_rolled_by_4_ReferenceIdeal : Cert.Pre_rolled_by_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_5_ReferenceIdeal [hPre_rolled_by_5_ReferenceIdeal : Cert.Pre_rolled_by_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_6_ReferenceIdeal [hPre_rolled_by_6_ReferenceIdeal : Cert.Pre_rolled_by_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_7_ReferenceIdeal [hPre_rolled_by_7_ReferenceIdeal : Cert.Pre_rolled_by_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_by_1_Kernel : Cert.Pre_rolled_by_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_2_Kernel [hKernel : Cert.Kernel.Facts] [hPre_rolled_by_2_Kernel : Cert.Pre_rolled_by_2_Kernel.Facts] : Prop :=
  ∀ (m : (ℓ : Loc Cert.Kernel.nD Cert.Kernel.τ Cert.Kernel.sig) → Buf (Elt Bits) ℓ) (g : Dev Cert.Kernel.nD → PrngReg), Pre_Kernel_rolled_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_3_Kernel [hKernel : Cert.Kernel.Facts] [hPre_rolled_by_3_Kernel : Cert.Pre_rolled_by_3_Kernel.Facts] : Prop :=
  ∀ (m : (ℓ : Loc Cert.Kernel.nD Cert.Kernel.τ Cert.Kernel.sig) → Buf (Elt Bits) ℓ) (g : Dev Cert.Kernel.nD → PrngReg), Pre_Kernel_rolled_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_4_Kernel [hKernel : Cert.Kernel.Facts] [hPre_rolled_by_4_Kernel : Cert.Pre_rolled_by_4_Kernel.Facts] : Prop :=
  ∀ (m : (ℓ : Loc Cert.Kernel.nD Cert.Kernel.τ Cert.Kernel.sig) → Buf (Elt Bits) ℓ) (g : Dev Cert.Kernel.nD → PrngReg), Pre_Kernel_rolled_by_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_5_Kernel [hKernel : Cert.Kernel.Facts] [hPre_rolled_by_5_Kernel : Cert.Pre_rolled_by_5_Kernel.Facts] : Prop :=
  ∀ (m : (ℓ : Loc Cert.Kernel.nD Cert.Kernel.τ Cert.Kernel.sig) → Buf (Elt Bits) ℓ) (g : Dev Cert.Kernel.nD → PrngReg), Pre_Kernel_rolled_by_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_6_Kernel [hKernel : Cert.Kernel.Facts] [hPre_rolled_by_6_Kernel : Cert.Pre_rolled_by_6_Kernel.Facts] : Prop :=
  ∀ (m : (ℓ : Loc Cert.Kernel.nD Cert.Kernel.τ Cert.Kernel.sig) → Buf (Elt Bits) ℓ) (g : Dev Cert.Kernel.nD → PrngReg), Pre_Kernel_rolled_by_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_7_Kernel [hKernel : Cert.Kernel.Facts] [hPre_rolled_by_7_Kernel : Cert.Pre_rolled_by_7_Kernel.Facts] : Prop :=
  ∀ (m : (ℓ : Loc Cert.Kernel.nD Cert.Kernel.τ Cert.Kernel.sig) → Buf (Elt Bits) ℓ) (g : Dev Cert.Kernel.nD → PrngReg), Pre_Kernel_rolled_by_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_2_Kernel [hKernelIdeal : Cert.KernelIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_3_Kernel [hKernelIdeal : Cert.KernelIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_4_Kernel [hKernelIdeal : Cert.KernelIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_5_Kernel [hKernelIdeal : Cert.KernelIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_6_Kernel [hKernelIdeal : Cert.KernelIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_7_Kernel [hKernelIdeal : Cert.KernelIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_1_ReferenceIdeal [hReferenceIdeal : Cert.ReferenceIdeal.Facts] [hPre_rolled_by_1_ReferenceIdeal : Cert.Pre_rolled_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_2_ReferenceIdeal [hReferenceIdeal : Cert.ReferenceIdeal.Facts] [hPre_rolled_by_2_ReferenceIdeal : Cert.Pre_rolled_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_3_ReferenceIdeal [hReferenceIdeal : Cert.ReferenceIdeal.Facts] [hPre_rolled_by_3_ReferenceIdeal : Cert.Pre_rolled_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_4_ReferenceIdeal [hReferenceIdeal : Cert.ReferenceIdeal.Facts] [hPre_rolled_by_4_ReferenceIdeal : Cert.Pre_rolled_by_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_5_ReferenceIdeal [hReferenceIdeal : Cert.ReferenceIdeal.Facts] [hPre_rolled_by_5_ReferenceIdeal : Cert.Pre_rolled_by_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_6_ReferenceIdeal [hReferenceIdeal : Cert.ReferenceIdeal.Facts] [hPre_rolled_by_6_ReferenceIdeal : Cert.Pre_rolled_by_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_7_ReferenceIdeal [hReferenceIdeal : Cert.ReferenceIdeal.Facts] [hPre_rolled_by_7_ReferenceIdeal : Cert.Pre_rolled_by_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_2_Kernel [hKernelIdeal : Cert.KernelIdeal.Facts] [hReferenceIdeal : Cert.ReferenceIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_2_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_3_Kernel [hKernelIdeal : Cert.KernelIdeal.Facts] [hReferenceIdeal : Cert.ReferenceIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_3_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_4_Kernel [hKernelIdeal : Cert.KernelIdeal.Facts] [hReferenceIdeal : Cert.ReferenceIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_4_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_5_Kernel [hKernelIdeal : Cert.KernelIdeal.Facts] [hReferenceIdeal : Cert.ReferenceIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_5_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_6_Kernel [hKernelIdeal : Cert.KernelIdeal.Facts] [hReferenceIdeal : Cert.ReferenceIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_6_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_7_Kernel [hKernelIdeal : Cert.KernelIdeal.Facts] [hReferenceIdeal : Cert.ReferenceIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_7_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_by_1_Kernel : Cert.Pre_rolled_by_1_Kernel.Facts) (hPre_rolled_by_2_Kernel : Cert.Pre_rolled_by_2_Kernel.Facts) (hPre_rolled_by_3_Kernel : Cert.Pre_rolled_by_3_Kernel.Facts) (hPre_rolled_by_4_Kernel : Cert.Pre_rolled_by_4_Kernel.Facts) (hPre_rolled_by_5_Kernel : Cert.Pre_rolled_by_5_Kernel.Facts) (hPre_rolled_by_6_Kernel : Cert.Pre_rolled_by_6_Kernel.Facts) (hPre_rolled_by_7_Kernel : Cert.Pre_rolled_by_7_Kernel.Facts) (hPre_rolled_by_1_ReferenceIdeal : Cert.Pre_rolled_by_1_ReferenceIdeal.Facts) (hPre_rolled_by_2_ReferenceIdeal : Cert.Pre_rolled_by_2_ReferenceIdeal.Facts) (hPre_rolled_by_3_ReferenceIdeal : Cert.Pre_rolled_by_3_ReferenceIdeal.Facts) (hPre_rolled_by_4_ReferenceIdeal : Cert.Pre_rolled_by_4_ReferenceIdeal.Facts) (hPre_rolled_by_5_ReferenceIdeal : Cert.Pre_rolled_by_5_ReferenceIdeal.Facts) (hPre_rolled_by_6_ReferenceIdeal : Cert.Pre_rolled_by_6_ReferenceIdeal.Facts) (hPre_rolled_by_7_ReferenceIdeal : Cert.Pre_rolled_by_7_ReferenceIdeal.Facts),
    quiescent_Kernel (hKernel := hKernel) (hPre_rolled_by_1_Kernel := hPre_rolled_by_1_Kernel)
    ∧ quiescent_Kernel_pre_rolled_by_2_Kernel (hKernel := hKernel) (hPre_rolled_by_2_Kernel := hPre_rolled_by_2_Kernel)
    ∧ quiescent_Kernel_pre_rolled_by_3_Kernel (hKernel := hKernel) (hPre_rolled_by_3_Kernel := hPre_rolled_by_3_Kernel)
    ∧ quiescent_Kernel_pre_rolled_by_4_Kernel (hKernel := hKernel) (hPre_rolled_by_4_Kernel := hPre_rolled_by_4_Kernel)
    ∧ quiescent_Kernel_pre_rolled_by_5_Kernel (hKernel := hKernel) (hPre_rolled_by_5_Kernel := hPre_rolled_by_5_Kernel)
    ∧ quiescent_Kernel_pre_rolled_by_6_Kernel (hKernel := hKernel) (hPre_rolled_by_6_Kernel := hPre_rolled_by_6_Kernel)
    ∧ quiescent_Kernel_pre_rolled_by_7_Kernel (hKernel := hKernel) (hPre_rolled_by_7_Kernel := hPre_rolled_by_7_Kernel)
    ∧ quiescent_KernelIdeal (hKernelIdeal := hKernelIdeal) (hPre_rolled_by_1_Kernel := hPre_rolled_by_1_Kernel)
    ∧ quiescent_KernelIdeal_pre_rolled_by_2_Kernel (hKernelIdeal := hKernelIdeal) (hPre_rolled_by_2_Kernel := hPre_rolled_by_2_Kernel)
    ∧ quiescent_KernelIdeal_pre_rolled_by_3_Kernel (hKernelIdeal := hKernelIdeal) (hPre_rolled_by_3_Kernel := hPre_rolled_by_3_Kernel)
    ∧ quiescent_KernelIdeal_pre_rolled_by_4_Kernel (hKernelIdeal := hKernelIdeal) (hPre_rolled_by_4_Kernel := hPre_rolled_by_4_Kernel)
    ∧ quiescent_KernelIdeal_pre_rolled_by_5_Kernel (hKernelIdeal := hKernelIdeal) (hPre_rolled_by_5_Kernel := hPre_rolled_by_5_Kernel)
    ∧ quiescent_KernelIdeal_pre_rolled_by_6_Kernel (hKernelIdeal := hKernelIdeal) (hPre_rolled_by_6_Kernel := hPre_rolled_by_6_Kernel)
    ∧ quiescent_KernelIdeal_pre_rolled_by_7_Kernel (hKernelIdeal := hKernelIdeal) (hPre_rolled_by_7_Kernel := hPre_rolled_by_7_Kernel)
    ∧ quiescent_ReferenceIdeal (hReferenceIdeal := hReferenceIdeal)
    ∧ quiescent_ReferenceIdeal_pre_rolled_by_1_ReferenceIdeal (hReferenceIdeal := hReferenceIdeal) (hPre_rolled_by_1_ReferenceIdeal := hPre_rolled_by_1_ReferenceIdeal)
    ∧ quiescent_ReferenceIdeal_pre_rolled_by_2_ReferenceIdeal (hReferenceIdeal := hReferenceIdeal) (hPre_rolled_by_2_ReferenceIdeal := hPre_rolled_by_2_ReferenceIdeal)
    ∧ quiescent_ReferenceIdeal_pre_rolled_by_3_ReferenceIdeal (hReferenceIdeal := hReferenceIdeal) (hPre_rolled_by_3_ReferenceIdeal := hPre_rolled_by_3_ReferenceIdeal)
    ∧ quiescent_ReferenceIdeal_pre_rolled_by_4_ReferenceIdeal (hReferenceIdeal := hReferenceIdeal) (hPre_rolled_by_4_ReferenceIdeal := hPre_rolled_by_4_ReferenceIdeal)
    ∧ quiescent_ReferenceIdeal_pre_rolled_by_5_ReferenceIdeal (hReferenceIdeal := hReferenceIdeal) (hPre_rolled_by_5_ReferenceIdeal := hPre_rolled_by_5_ReferenceIdeal)
    ∧ quiescent_ReferenceIdeal_pre_rolled_by_6_ReferenceIdeal (hReferenceIdeal := hReferenceIdeal) (hPre_rolled_by_6_ReferenceIdeal := hPre_rolled_by_6_ReferenceIdeal)
    ∧ quiescent_ReferenceIdeal_pre_rolled_by_7_ReferenceIdeal (hReferenceIdeal := hReferenceIdeal) (hPre_rolled_by_7_ReferenceIdeal := hPre_rolled_by_7_ReferenceIdeal)
    ∧ preserves_Kernel_KernelIdeal
    ∧ algebraic_KernelIdeal_ReferenceIdeal (hKernelIdeal := hKernelIdeal) (hReferenceIdeal := hReferenceIdeal) (hPre_rolled_by_1_Kernel := hPre_rolled_by_1_Kernel)
    ∧ algebraic_KernelIdeal_ReferenceIdeal_pre_rolled_by_2_Kernel (hKernelIdeal := hKernelIdeal) (hReferenceIdeal := hReferenceIdeal) (hPre_rolled_by_2_Kernel := hPre_rolled_by_2_Kernel)
    ∧ algebraic_KernelIdeal_ReferenceIdeal_pre_rolled_by_3_Kernel (hKernelIdeal := hKernelIdeal) (hReferenceIdeal := hReferenceIdeal) (hPre_rolled_by_3_Kernel := hPre_rolled_by_3_Kernel)
    ∧ algebraic_KernelIdeal_ReferenceIdeal_pre_rolled_by_4_Kernel (hKernelIdeal := hKernelIdeal) (hReferenceIdeal := hReferenceIdeal) (hPre_rolled_by_4_Kernel := hPre_rolled_by_4_Kernel)
    ∧ algebraic_KernelIdeal_ReferenceIdeal_pre_rolled_by_5_Kernel (hKernelIdeal := hKernelIdeal) (hReferenceIdeal := hReferenceIdeal) (hPre_rolled_by_5_Kernel := hPre_rolled_by_5_Kernel)
    ∧ algebraic_KernelIdeal_ReferenceIdeal_pre_rolled_by_6_Kernel (hKernelIdeal := hKernelIdeal) (hReferenceIdeal := hReferenceIdeal) (hPre_rolled_by_6_Kernel := hPre_rolled_by_6_Kernel)
    ∧ algebraic_KernelIdeal_ReferenceIdeal_pre_rolled_by_7_Kernel (hKernelIdeal := hKernelIdeal) (hReferenceIdeal := hReferenceIdeal) (hPre_rolled_by_7_Kernel := hPre_rolled_by_7_Kernel)
-- ==== Pre_rolled_by_1_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_1_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_2_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_2_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_3_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_3_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_4_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_4_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_5_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_5_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_6_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_6_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_7_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_by_7_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Kernel.lean ====
abbrev S1x2048x1024 : Shape := ⟨3, ![1, 2048, 1024]⟩
abbrev S8 : Shape := ⟨1, ![8]⟩
abbrev S2x448x1024 : Shape := ⟨3, ![2, 448, 1024]⟩
abbrev S2048x1024 : Shape := ⟨2, ![2048, 1024]⟩
abbrev S8x8x128 : Shape := ⟨3, ![8, 8, 128]⟩
abbrev S2 : Shape := ⟨1, ![2]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩
abbrev S1x128x1024 : Shape := ⟨3, ![1, 128, 1024]⟩
abbrev S128x1024 : Shape := ⟨2, ![128, 1024]⟩
abbrev S1x1x1 : Shape := ⟨3, ![1, 1, 1]⟩
abbrev S8x128 : Shape := ⟨2, ![8, 128]⟩
abbrev S1x8x128 : Shape := ⟨3, ![1, 8, 128]⟩
abbrev S1x256x1024 : Shape := ⟨3, ![1, 256, 1024]⟩
abbrev S256x1024 : Shape := ⟨2, ![256, 1024]⟩
abbrev S1x384x1024 : Shape := ⟨3, ![1, 384, 1024]⟩
abbrev S384x1024 : Shape := ⟨2, ![384, 1024]⟩
abbrev S1x448x1024 : Shape := ⟨3, ![1, 448, 1024]⟩
abbrev S448x1024 : Shape := ⟨2, ![448, 1024]⟩
abbrev S1x1 : Shape := ⟨2, ![1, 1]⟩

abbrev nBuf : Space → Nat
  | .hbm => 3
  | .vmem => 6
  | .smem => 1
  | _ => 0

abbrev bufTy : (tb : Table) → Fin (tcTables nBuf tb) → BufTy
  | .hbm, ⟨0, _⟩ => ⟨S1x2048x1024, .f32⟩
  | .hbm, ⟨1, _⟩ => ⟨S8, .i32⟩
  | .hbm, ⟨2, _⟩ => ⟨S1x2048x1024, .bf16⟩
  | .local _ .vmem, ⟨0, _⟩ => ⟨S2x448x1024, .f32⟩
  | .local _ .vmem, ⟨1, _⟩ => ⟨S2048x1024, .i8⟩
  | .local _ .vmem, ⟨2, _⟩ => ⟨S8x8x128, .f32⟩
  | .local _ .vmem, ⟨3, _⟩ => ⟨S2048x1024, .i8⟩
  | .local _ .vmem, ⟨4, _⟩ => ⟨S8x8x128, .f32⟩
  | .local _ .vmem, ⟨5, _⟩ => ⟨S2x448x1024, .bf16⟩
  | .local _ .smem, ⟨0, _⟩ => ⟨S8, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : Index := Scalar.indexCast v2
  ![v3.toNat]
def k0_dev1 (d0 : Dev nD) (v5 : BitVec 32) (v8 : BitVec 32) (v11 : BitVec 32) (v14 : BitVec 32) (v17 : BitVec 32) (v20 : BitVec 32) (v23 : BitVec 32) (v26 : BitVec 32) : Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v27 : BitVec 1 := Scalar.cmpi .eq v26 v2
  let c7_i32 : BitVec 32 := 7#32
  let v24 : BitVec 1 := Scalar.cmpi .eq v23 v2
  let c6_i32 : BitVec 32 := 6#32
  let v21 : BitVec 1 := Scalar.cmpi .eq v20 v2
  let c5_i32 : BitVec 32 := 5#32
  let v18 : BitVec 1 := Scalar.cmpi .eq v17 v2
  let c4_i32 : BitVec 32 := 4#32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let v19 : BitVec 32 := Scalar.select v18 c4_i32 v16
  let v22 : BitVec 32 := Scalar.select v21 c5_i32 v19
  let v25 : BitVec 32 := Scalar.select v24 c6_i32 v22
  let v28 : BitVec 32 := Scalar.select v27 c7_i32 v25
  let c1_i32_3 : BitVec 32 := 1#32
  let v30 : BitVec 32 := Scalar.muli v28 c1_i32_3
  let v31 : BitVec 32 := Scalar.addi c0_i32_4 v30
  v31.toNat

def k0_chk1 (d0 : Dev nD) (v5 : BitVec 32) (v8 : BitVec 32) (v11 : BitVec 32) (v14 : BitVec 32) (v17 : BitVec 32) (v20 : BitVec 32) (v23 : BitVec 32) (v26 : BitVec 32) : Prop :=
  ((k0_dev1 d0 v5 v8 v11 v14 v17 v20 v23 v26) < nD)
theorem k0_dev1_lt : ∀ (d0 : Dev nD) (v5 : BitVec 32) (v8 : BitVec 32) (v11 : BitVec 32) (v14 : BitVec 32) (v17 : BitVec 32) (v20 : BitVec 32) (v23 : BitVec 32) (v26 : BitVec 32) (k0_hw1 : k0_chk1 d0 v5 v8 v11 v14 v17 v20 v23 v26), (k0_dev1 d0 v5 v8 v11 v14 v17 v20 v23 v26) < nD := fun d0 v5 v8 v11 v14 v17 v20 v23 v26 k0_hw1 => k0_hw1

def k0_dev2 (v4 : BitVec 32) : Nat :=
  let c0_i32_43 : BitVec 32 := 0#32
  let c1_i32_42 : BitVec 32 := 1#32
  let v74 : BitVec 32 := Scalar.muli v4 c1_i32_42
  let v75 : BitVec 32 := Scalar.addi c0_i32_43 v74
  v75.toNat

def k0_dev3 (v4 : BitVec 32) : Nat :=
  let c0_i32_51 : BitVec 32 := 0#32
  let c1_i32_50 : BitVec 32 := 1#32
  let v84 : BitVec 32 := Scalar.muli v4 c1_i32_50
  let v85 : BitVec 32 := Scalar.addi c0_i32_51 v84
  v85.toNat
def k0_dev4 (v4 : BitVec 32) : Nat :=
  let c0_i32_86 : BitVec 32 := 0#32
  let c1_i32_85 : BitVec 32 := 1#32
  let v128 : BitVec 32 := Scalar.muli v4 c1_i32_85
  let v129 : BitVec 32 := Scalar.addi c0_i32_86 v128
  v129.toNat
def k0_dev5 (v4 : BitVec 32) : Nat :=
  let c0_i32_94 : BitVec 32 := 0#32
  let c1_i32_93 : BitVec 32 := 1#32
  let v138 : BitVec 32 := Scalar.muli v4 c1_i32_93
  let v139 : BitVec 32 := Scalar.addi c0_i32_94 v138
  v139.toNat
def k0_dev6 (v4 : BitVec 32) : Nat :=
  let c0_i32_129 : BitVec 32 := 0#32
  let c1_i32_128 : BitVec 32 := 1#32
  let v182 : BitVec 32 := Scalar.muli v4 c1_i32_128
  let v183 : BitVec 32 := Scalar.addi c0_i32_129 v182
  v183.toNat
def k0_dev7 (v4 : BitVec 32) : Nat :=
  let c0_i32_137 : BitVec 32 := 0#32
  let c1_i32_136 : BitVec 32 := 1#32
  let v192 : BitVec 32 := Scalar.muli v4 c1_i32_136
  let v193 : BitVec 32 := Scalar.addi c0_i32_137 v192
  v193.toNat
def k0_dev8 (v4 : BitVec 32) : Nat :=
  let c0_i32_172 : BitVec 32 := 0#32
  let c1_i32_171 : BitVec 32 := 1#32
  let v236 : BitVec 32 := Scalar.muli v4 c1_i32_171
  let v237 : BitVec 32 := Scalar.addi c0_i32_172 v236
  v237.toNat
def k0_dev9 (v4 : BitVec 32) : Nat :=
  let c0_i32_180 : BitVec 32 := 0#32
  let c1_i32_179 : BitVec 32 := 1#32
  let v246 : BitVec 32 := Scalar.muli v4 c1_i32_179
  let v247 : BitVec 32 := Scalar.addi c0_i32_180 v246
  v247.toNat
def k0_dev10 (v4 : BitVec 32) : Nat :=
  let c0_i32_215 : BitVec 32 := 0#32
  let c1_i32_214 : BitVec 32 := 1#32
  let v290 : BitVec 32 := Scalar.muli v4 c1_i32_214
  let v291 : BitVec 32 := Scalar.addi c0_i32_215 v290
  v291.toNat
def k0_dev11 (v4 : BitVec 32) : Nat :=
  let c0_i32_223 : BitVec 32 := 0#32
  let c1_i32_222 : BitVec 32 := 1#32
  let v300 : BitVec 32 := Scalar.muli v4 c1_i32_222
  let v301 : BitVec 32 := Scalar.addi c0_i32_223 v300
  v301.toNat
def k0_dev12 (v4 : BitVec 32) : Nat :=
  let c0_i32_258 : BitVec 32 := 0#32
  let c1_i32_257 : BitVec 32 := 1#32
  let v344 : BitVec 32 := Scalar.muli v4 c1_i32_257
  let v345 : BitVec 32 := Scalar.addi c0_i32_258 v344
  v345.toNat
def k0_dev13 (v4 : BitVec 32) : Nat :=
  let c0_i32_266 : BitVec 32 := 0#32
  let c1_i32_265 : BitVec 32 := 1#32
  let v354 : BitVec 32 := Scalar.muli v4 c1_i32_265
  let v355 : BitVec 32 := Scalar.addi c0_i32_266 v354
  v355.toNat
def k0_dev14 (v4 : BitVec 32) : Nat :=
  let c0_i32_301 : BitVec 32 := 0#32
  let c1_i32_300 : BitVec 32 := 1#32
  let v398 : BitVec 32 := Scalar.muli v4 c1_i32_300
  let v399 : BitVec 32 := Scalar.addi c0_i32_301 v398
  v399.toNat
def k0_dev15 (v4 : BitVec 32) : Nat :=
  let c0_i32_309 : BitVec 32 := 0#32
  let c1_i32_308 : BitVec 32 := 1#32
  let v408 : BitVec 32 := Scalar.muli v4 c1_i32_308
  let v409 : BitVec 32 := Scalar.addi c0_i32_309 v408
  v409.toNat
def k0_dev16 (v4 : BitVec 32) : Nat :=
  let c0_i32_338 : BitVec 32 := 0#32
  let c1_i32_337 : BitVec 32 := 1#32
  let v446 : BitVec 32 := Scalar.muli v4 c1_i32_337
  let v447 : BitVec 32 := Scalar.addi c0_i32_338 v446
  v447.toNat
def k0_dev17 (v4 : BitVec 32) : Nat :=
  let c0_i32_346 : BitVec 32 := 0#32
  let c1_i32_345 : BitVec 32 := 1#32
  let v456 : BitVec 32 := Scalar.muli v4 c1_i32_345
  let v457 : BitVec 32 := Scalar.addi c0_i32_346 v456
  v457.toNat

def k0_chk2 (v4 : BitVec 32) : Prop :=
  ((k0_dev2 v4) < nD) ∧
  ((k0_dev3 v4) < nD) ∧
  ((k0_dev4 v4) < nD) ∧
  ((k0_dev5 v4) < nD) ∧
  ((k0_dev6 v4) < nD) ∧
  ((k0_dev7 v4) < nD) ∧
  ((k0_dev8 v4) < nD) ∧
  ((k0_dev9 v4) < nD) ∧
  ((k0_dev10 v4) < nD) ∧
  ((k0_dev11 v4) < nD) ∧
  ((k0_dev12 v4) < nD) ∧
  ((k0_dev13 v4) < nD) ∧
  ((k0_dev14 v4) < nD) ∧
  ((k0_dev15 v4) < nD) ∧
  ((k0_dev16 v4) < nD) ∧
  ((k0_dev17 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev4_lt : ∀ (v4 : BitVec 32) (k0_hw2 : k0_chk2 v4), (k0_dev4 v4) < nD := fun v4 k0_hw2 => k0_hw2.2.2.1
theorem k0_dev5_lt : ∀ (v4 : BitVec 32) (k0_hw2 : k0_chk2 v4), (k0_dev5 v4) < nD := fun v4 k0_hw2 => k0_hw2.2.2.2.1
theorem k0_dev6_lt : ∀ (v4 : BitVec 32) (k0_hw2 : k0_chk2 v4), (k0_dev6 v4) < nD := fun v4 k0_hw2 => k0_hw2.2.2.2.2.1
theorem k0_dev7_lt : ∀ (v4 : BitVec 32) (k0_hw2 : k0_chk2 v4), (k0_dev7 v4) < nD := fun v4 k0_hw2 => k0_hw2.2.2.2.2.2.1
theorem k0_dev8_lt : ∀ (v4 : BitVec 32) (k0_hw2 : k0_chk2 v4), (k0_dev8 v4) < nD := fun v4 k0_hw2 => k0_hw2.2.2.2.2.2.2.1
theorem k0_dev9_lt : ∀ (v4 : BitVec 32) (k0_hw2 : k0_chk2 v4), (k0_dev9 v4) < nD := fun v4 k0_hw2 => k0_hw2.2.2.2.2.2.2.2.1
theorem k0_dev10_lt : ∀ (v4 : BitVec 32) (k0_hw2 : k0_chk2 v4), (k0_dev10 v4) < nD := fun v4 k0_hw2 => k0_hw2.2.2.2.2.2.2.2.2.1
theorem k0_dev11_lt : ∀ (v4 : BitVec 32) (k0_hw2 : k0_chk2 v4), (k0_dev11 v4) < nD := fun v4 k0_hw2 => k0_hw2.2.2.2.2.2.2.2.2.2.1
theorem k0_dev12_lt : ∀ (v4 : BitVec 32) (k0_hw2 : k0_chk2 v4), (k0_dev12 v4) < nD := fun v4 k0_hw2 => k0_hw2.2.2.2.2.2.2.2.2.2.2.1
theorem k0_dev13_lt : ∀ (v4 : BitVec 32) (k0_hw2 : k0_chk2 v4), (k0_dev13 v4) < nD := fun v4 k0_hw2 => k0_hw2.2.2.2.2.2.2.2.2.2.2.2.1
theorem k0_dev14_lt : ∀ (v4 : BitVec 32) (k0_hw2 : k0_chk2 v4), (k0_dev14 v4) < nD := fun v4 k0_hw2 => k0_hw2.2.2.2.2.2.2.2.2.2.2.2.2.1
theorem k0_dev15_lt : ∀ (v4 : BitVec 32) (k0_hw2 : k0_chk2 v4), (k0_dev15 v4) < nD := fun v4 k0_hw2 => k0_hw2.2.2.2.2.2.2.2.2.2.2.2.2.2.1
theorem k0_dev16_lt : ∀ (v4 : BitVec 32) (k0_hw2 : k0_chk2 v4), (k0_dev16 v4) < nD := fun v4 k0_hw2 => k0_hw2.2.2.2.2.2.2.2.2.2.2.2.2.2.2.1
theorem k0_dev17_lt : ∀ (v4 : BitVec 32) (k0_hw2 : k0_chk2 v4), (k0_dev17 v4) < nD := fun v4 k0_hw2 => k0_hw2.2.2.2.2.2.2.2.2.2.2.2.2.2.2.2

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8x2048x1024 : Shape := ⟨3, ![8, 2048, 1024]⟩
abbrev S8 : Shape := ⟨1, ![8]⟩
abbrev S_ : Shape := ⟨0, ![]⟩
abbrev S8x1 : Shape := ⟨2, ![8, 1]⟩
abbrev S8x2048 : Shape := ⟨2, ![8, 2048]⟩
abbrev S8x64 : Shape := ⟨2, ![8, 64]⟩
abbrev S8x128 : Shape := ⟨2, ![8, 128]⟩
abbrev S8x256 : Shape := ⟨2, ![8, 256]⟩
abbrev S8x384 : Shape := ⟨2, ![8, 384]⟩
abbrev S8x448 : Shape := ⟨2, ![8, 448]⟩
abbrev S8x2048x1 : Shape := ⟨3, ![8, 2048, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .i32⟩
  | .hbm, ⟨2, _⟩ => ⟨S8, .i32⟩
  | .hbm, ⟨3, _⟩ => ⟨S8, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x64, .f32⟩
  | .hbm, ⟨18, _⟩ => ⟨S_, .f32⟩
  | .hbm, ⟨19, _⟩ => ⟨S8, .f32⟩
  | .hbm, ⟨20, _⟩ => ⟨S8x1, .f32⟩
  | .hbm, ⟨21, _⟩ => ⟨S8x64, .f32⟩
  | .hbm, ⟨22, _⟩ => ⟨S8x128, .f32⟩
  | .hbm, ⟨23, _⟩ => ⟨S_, .f32⟩
  | .hbm, ⟨24, _⟩ => ⟨S8, .f32⟩
  | .hbm, ⟨25, _⟩ => ⟨S8x1, .f32⟩
  | .hbm, ⟨26, _⟩ => ⟨S8x128, .f32⟩
  | .hbm, ⟨27, _⟩ => ⟨S8x256, .f32⟩
  | .hbm, ⟨28, _⟩ => ⟨S_, .f32⟩
  | .hbm, ⟨29, _⟩ => ⟨S8, .f32⟩
  | .hbm, ⟨30, _⟩ => ⟨S8x1, .f32⟩
  | .hbm, ⟨31, _⟩ => ⟨S8x256, .f32⟩
  | .hbm, ⟨32, _⟩ => ⟨S8x384, .f32⟩
  | .hbm, ⟨33, _⟩ => ⟨S_, .f32⟩
  | .hbm, ⟨34, _⟩ => ⟨S8, .f32⟩
  | .hbm, ⟨35, _⟩ => ⟨S8x1, .f32⟩
  | .hbm, ⟨36, _⟩ => ⟨S8x384, .f32⟩
  | .hbm, ⟨37, _⟩ => ⟨S8x448, .f32⟩
  | .hbm, ⟨38, _⟩ => ⟨S_, .f32⟩
  | .hbm, ⟨39, _⟩ => ⟨S8, .f32⟩
  | .hbm, ⟨40, _⟩ => ⟨S8x1, .f32⟩
  | .hbm, ⟨41, _⟩ => ⟨S8x448, .f32⟩
  | .hbm, ⟨42, _⟩ => ⟨S8x384, .f32⟩
  | .hbm, ⟨43, _⟩ => ⟨S_, .f32⟩
  | .hbm, ⟨44, _⟩ => ⟨S8, .f32⟩
  | .hbm, ⟨45, _⟩ => ⟨S8x1, .f32⟩
  | .hbm, ⟨46, _⟩ => ⟨S8x384, .f32⟩
  | .hbm, ⟨47, _⟩ => ⟨S8x256, .f32⟩
  | .hbm, ⟨48, _⟩ => ⟨S_, .f32⟩
  | .hbm, ⟨49, _⟩ => ⟨S8, .f32⟩
  | .hbm, ⟨50, _⟩ => ⟨S8x1, .f32⟩
  | .hbm, ⟨51, _⟩ => ⟨S8x256, .f32⟩
  | .hbm, ⟨52, _⟩ => ⟨S8x128, .f32⟩
  | .hbm, ⟨53, _⟩ => ⟨S_, .f32⟩
  | .hbm, ⟨54, _⟩ => ⟨S8, .f32⟩
  | .hbm, ⟨55, _⟩ => ⟨S8x1, .f32⟩
  | .hbm, ⟨56, _⟩ => ⟨S8x128, .f32⟩
  | .hbm, ⟨57, _⟩ => ⟨S8x2048, .f32⟩
  | .hbm, ⟨58, _⟩ => ⟨S_, .f32⟩
  | .hbm, ⟨59, _⟩ => ⟨S8x2048, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8x2048x1024, .f32⟩
  | .hbm, ⟨72, _⟩ => ⟨S8x2048x1024, .f32⟩
  | .hbm, ⟨73, _⟩ => ⟨S_, .f32⟩
  | .hbm, ⟨74, _⟩ => ⟨S8x2048x1024, .f32⟩
  | .hbm, ⟨75, _⟩ => ⟨S8x2048x1024, .f32⟩
  | .hbm, ⟨76, _⟩ => ⟨S8x2048x1024, .i32⟩
  | .hbm, ⟨77, _⟩ => ⟨S8x2048x1024, .i8⟩
  | .hbm, ⟨78, _⟩ => ⟨S8x2048x1024, .i32⟩
  | .hbm, ⟨79, _⟩ => ⟨S8x2048x1024, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1024, .f32⟩
  | .hbm, ⟨84, _⟩ => ⟨S8x2048x1024, .f32⟩
  | .hbm, ⟨85, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_cst_12 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Proof.Reference.lean ====
/-
# The reference's run

Its operations in order leave in the result buffer one term of the two arguments, given here by its parts: the order of
the table, the picked shards, the rows' largest magnitudes, the scale of each row, the quantised elements.
-/
module

public import proofs.«01_k».proof.ReferenceIdeal
public import proofs.«01_k».proof.Defs
public import proofs.«01_k».proof.Proof.Gen.ReferenceIdeal
public import proofs.«01_k».proof.Proof.Gen.Pre_rolled_by_1_ReferenceIdeal
public import proofs.«01_k».proof.Proof.Gen.Pre_rolled_by_2_ReferenceIdeal
public import proofs.«01_k».proof.Proof.Gen.Pre_rolled_by_3_ReferenceIdeal
public import proofs.«01_k».proof.Proof.Gen.Pre_rolled_by_4_ReferenceIdeal
public import proofs.«01_k».proof.Proof.Gen.Pre_rolled_by_5_ReferenceIdeal
public import proofs.«01_k».proof.Proof.Gen.Pre_rolled_by_6_ReferenceIdeal
public import proofs.«01_k».proof.Proof.Gen.Pre_rolled_by_7_ReferenceIdeal
public import Idealize.ShloMosaic.Lib.Claim
public import Idealize.ShloMosaic.Lib.StableHlo.RunHlo
public import Idealize.ShloMosaic.Lib.StableHlo.RunRead

@[expose] public section

noncomputable section

namespace Cert.PermProof.Ref

open Cert.ReferenceIdeal Cert.ReferenceIdeal.Gen
open Idealize.ShloMosaic Idealize.ShloMosaic.StableHlo Idealize.ShloMosaic.TcCoe Idealize.SL.Sem

variable {F : FTy → Type} [FloatOps F]

/-- The argsort of the table. -/
def order (p : IVec S8 32) : IVec S8 32 := (Host.sort2 S8 0 comparator_i32_i32_d0 p (iotaInDim S8 32 0)).2

/-- Each result shard's source, as the gather's start index. -/
def starts (p : IVec S8 32) : IVec S8x1 32 :=
  broadcastInDim S8x1 ![0] bcast_S8_S8x1_0
    (select (cmpi .slt (order p) (broadcastInDim S8 ![] bcast_S_S8 (constantI S_ 32 0#32)))
      (addi (order p) (broadcastInDim S8 ![] bcast_S_S8 (constantI S_ 32 8#32))) (order p))

/-- The shards in the table's order. -/
def picked (x : FVec F S8x2048x1024 .f32) (p : IVec S8 32) : FVec F S8x2048x1024 .f32 :=
  Host.gather gather_S8x2048x1024_S8x1_S8x2048x1024_12_0_n_n_0_1_120481024 x (starts p)

/-- Minus infinity, the maxima's initial value. -/
def bot : FVec F S_ .f32 := constant S_ .f32 0xFF800000#32

/-- Each row's largest magnitude. -/
def rows (y : FVec F S8x2048x1024 .f32) : FVec F S8x2048 .f32 :=
  Host.reduce FloatOps.maximumf (Host.absf y) bot reducesTo_S8x2048x1024_S8x2048_d2 h_S_

/-- Each row's chunk's largest magnitude. -/
def tops (t : FVec F S8x2048 .f32) : FVec F S8x2048 .f32 :=
  concatenate S8x2048 1
    [⟨S8x64, broadcastInDim S8x64 ![0, 1] bcast_S8x1_S8x64_0_1 (broadcastInDim S8x1 ![0] bcast_S8_S8x1_0
        (Host.reduce FloatOps.maximumf (extractStridedSlice S8x64 ![0, 0] t slices_S8x2048_S8x64_0_0) bot reducesTo_S8x64_S8_d1 h_S_))⟩,
      ⟨S8x128, broadcastInDim S8x128 ![0, 1] bcast_S8x1_S8x128_0_1 (broadcastInDim S8x1 ![0] bcast_S8_S8x1_0
        (Host.reduce FloatOps.maximumf (extractStridedSlice S8x128 ![0, 64] t slices_S8x2048_S8x128_0_64) bot reducesTo_S8x128_S8_d1 h_S_))⟩,
      ⟨S8x256, broadcastInDim S8x256 ![0, 1] bcast_S8x1_S8x256_0_1 (broadcastInDim S8x1 ![0] bcast_S8_S8x1_0
        (Host.reduce FloatOps.maximumf (extractStridedSlice S8x256 ![0, 192] t slices_S8x2048_S8x256_0_192) bot reducesTo_S8x256_S8_d1 h_S_))⟩,
      ⟨S8x384, broadcastInDim S8x384 ![0, 1] bcast_S8x1_S8x384_0_1 (broadcastInDim S8x1 ![0] bcast_S8_S8x1_0
        (Host.reduce FloatOps.maximumf (extractStridedSlice S8x384 ![0, 448] t slices_S8x2048_S8x384_0_448) bot reducesTo_S8x384_S8_d1 h_S_))⟩,
      ⟨S8x448, broadcastInDim S8x448 ![0, 1] bcast_S8x1_S8x448_0_1 (broadcastInDim S8x1 ![0] bcast_S8_S8x1_0
        (Host.reduce FloatOps.maximumf (extractStridedSlice S8x448 ![0, 832] t slices_S8x2048_S8x448_0_832) bot reducesTo_S8x448_S8_d1 h_S_))⟩,
      ⟨S8x384, broadcastInDim S8x384 ![0, 1] bcast_S8x1_S8x384_0_1 (broadcastInDim S8x1 ![0] bcast_S8_S8x1_0
        (Host.reduce FloatOps.maximumf (extractStridedSlice S8x384 ![0, 1280] t slices_S8x2048_S8x384_0_1280) bot reducesTo_S8x384_S8_d1 h_S_))⟩,
      ⟨S8x256, broadcastInDim S8x256 ![0, 1] bcast_S8x1_S8x256_0_1 (broadcastInDim S8x1 ![0] bcast_S8_S8x1_0
        (Host.reduce FloatOps.maximumf (extractStridedSlice S8x256 ![0, 1664] t slices_S8x2048_S8x256_0_1664) bot reducesTo_S8x256_S8_d1 h_S_))⟩,
      ⟨S8x128, broadcastInDim S8x128 ![0, 1] bcast_S8x1_S8x128_0_1 (broadcastInDim S8x1 ![0] bcast_S8_S8x1_0
        (Host.reduce FloatOps.maximumf (extractStridedSlice S8x128 ![0, 1920] t slices_S8x2048_S8x128_0_1920) bot reducesTo_S8x128_S8_d1 h_S_))⟩]
    concatenates_S8x64_S8x128_S8x256_S8x384_S8x448_S8x384_S8x256_S8x128_S8x2048_d1

/-- Each row's scale, with its unit axis, from the largest magnitudes. -/
def floored (t : FVec F S8x2048 .f32) : FVec F S8x2048x1 .f32 :=
  broadcastInDim S8x2048x1 ![0, 1] bcast_S8x2048_S8x2048x1_0_1
    (maximumf t (broadcastInDim S8x2048 ![] bcast_S_S8x2048 (constant S_ .f32 0x0DA24260#32)))

/-- Each row's scale, of the picked shards. -/
def scale (y : FVec F S8x2048x1024 .f32) : FVec F S8x2048x1 .f32 := floored (tops (rows y))

/-- The clipped quotients, of elements `y` under the scale `s`. -/
def clipped (y : FVec F S8x2048x1024 .f32) (s : FVec F S8x2048x1 .f32) : FVec F S8x2048x1024 .f32 :=
  minimumf (broadcastInDim S8x2048x1024 ![] bcast_S_S8x2048x1024 (id (constant S_ .f32 0x42FE0000#32)))
    (maximumf (broadcastInDim S8x2048x1024 ![] bcast_S_S8x2048x1024 (id (constant S_ .f32 0xC2FE0000#32)))
      (Host.roundeven (mulf y (broadcastInDim S8x2048x1024 ![0, 1, 2] bcast_S8x2048x1_S8x2048x1024_0_1_2
        (Host.divf (broadcastInDim S8x2048x1 ![] bcast_S_S8x2048x1 (constant S_ .f32 0x42FE0000#32)) s)))))

/-- The dequantised result. -/
def spread (q : FVec F S8x2048x1024 .f32) (s : FVec F S8x2048x1 .f32) : FVec F S8x2048x1024 .bf16 :=
  truncf .bf16 (mulf (sitofp .f32 (extsi 32 (trunci 8 (fptosi 32 q) natLt_8_32) natLt_8_32))
    (broadcastInDim S8x2048x1024 ![0, 1, 2] bcast_S8x2048x1_S8x2048x1024_0_1_2
      (mulf s (broadcastInDim S8x2048x1 ![] bcast_S_S8x2048x1 (constant S_ .f32 0x3C010204#32))))) bitsLt_bf16_f32

/-- The quantiser of the reference, of the picked shards. -/
def quantised (y : FVec F S8x2048x1024 .f32) : FVec F S8x2048x1024 .bf16 := spread (clipped y (scale y)) (scale y)

/-- Eight blocks side by side are equal when the blocks are. -/
theorem cat_congr {a0 b0 : FVec F S8x64 .f32} {a1 b1 : FVec F S8x128 .f32} {a2 b2 : FVec F S8x256 .f32} {a3 b3 : FVec F S8x384 .f32} {a4 b4 : FVec F S8x448 .f32} {a5 b5 : FVec F S8x384 .f32} {a6 b6 : FVec F S8x256 .f32} {a7 b7 : FVec F S8x128 .f32}
    (h0 : a0 = b0) (h1 : a1 = b1) (h2 : a2 = b2) (h3 : a3 = b3) (h4 : a4 = b4) (h5 : a5 = b5) (h6 : a6 = b6) (h7 : a7 = b7) :
    concatenate S8x2048 1 [⟨S8x64, a0⟩, ⟨S8x128, a1⟩, ⟨S8x256, a2⟩, ⟨S8x384, a3⟩, ⟨S8x448, a4⟩, ⟨S8x384, a5⟩, ⟨S8x256, a6⟩, ⟨S8x128, a7⟩]
        concatenates_S8x64_S8x128_S8x256_S8x384_S8x448_S8x384_S8x256_S8x128_S8x2048_d1
      = concatenate S8x2048 1 [⟨S8x64, b0⟩, ⟨S8x128, b1⟩, ⟨S8x256, b2⟩, ⟨S8x384, b3⟩, ⟨S8x448, b4⟩, ⟨S8x384, b5⟩, ⟨S8x256, b6⟩, ⟨S8x128, b7⟩]
        concatenates_S8x64_S8x128_S8x256_S8x384_S8x448_S8x384_S8x256_S8x128_S8x2048_d1 := by
  subst h0 h1 h2 h3 h4 h5 h6 h7; rfl

set_option maxRecDepth 16384 in
set_option maxHeartbeats 1000000 in
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v60) = quantised (picked (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (StableHlo.run_hlo _ _ (by hlo_seq) (by decide) (by decide) (by simp)
      (by intro _ h; (repeat (cases h with | head => rfl | tail _ h => ?_)); exact nomatch h) m ρ) ?_
  intro r hr c
  refine ⟨(hr c main_v60).trans ?_, (hr c main_arg0).trans ?_, (hr c main_arg1).trans ?_⟩
  · after_reads_simp
    let Y := picked (m ((c.tc : Thread nD τ).loc main_arg0)) (m ((c.tc : Thread nD τ).loc main_arg1))
    refine congrArg (fun t => spread (clipped Y (floored t)) (floored t)) (a₂ := tops (rows Y)) ?_
    refine cat_congr ?_ ?_ ?_ ?_ ?_ ?_ ?_ ?_
    · show upto _ _ _ (Proc.devRef .tc main_v13) = _
      after_reads_simp
      rfl
    · show upto _ _ _ (Proc.devRef .tc main_v17) = _
      after_reads_simp
      rfl
    · show upto _ _ _ (Proc.devRef .tc main_v21) = _
      after_reads_simp
      rfl
    · show upto _ _ _ (Proc.devRef .tc main_v25) = _
      after_reads_simp
      rfl
    · show upto _ _ _ (Proc.devRef .tc main_v29) = _
      after_reads_simp
      rfl
    · show upto _ _ _ (Proc.devRef .tc main_v33) = _
      after_reads_simp
      rfl
    · show upto _ _ _ (Proc.devRef .tc main_v37) = _
      after_reads_simp
      rfl
    · show upto _ _ _ (Proc.devRef .tc main_v41) = _
      after_reads_simp
      rfl
  · after_reads_simp
  · after_reads_simp

/-- The program has no semaphore, so every counter reads zero. -/
theorem no_sem (s : MemSt nD τ sig (Elt F)) : s.sem = fun _ => 0 := by
  funext g
  obtain ⟨t, sm⟩ := g
  cases sm with
  | reg i => exact i.elim0
  | dma i => exact i.elim0

theorem frame : Cert.quiescent_ReferenceIdeal := fun m ρ _ =>
  (θ_run defs _ _).mono (fun r h => ⟨fun c => (h c).2, no_sem r.2⟩) (run m ρ)

theorem frame_1 : Cert.quiescent_ReferenceIdeal_pre_rolled_by_1_ReferenceIdeal := fun m ρ _ => frame m ρ trivial
theorem frame_2 : Cert.quiescent_ReferenceIdeal_pre_rolled_by_2_ReferenceIdeal := fun m ρ _ => frame m ρ trivial
theorem frame_3 : Cert.quiescent_ReferenceIdeal_pre_rolled_by_3_ReferenceIdeal := fun m ρ _ => frame m ρ trivial
theorem frame_4 : Cert.quiescent_ReferenceIdeal_pre_rolled_by_4_ReferenceIdeal := fun m ρ _ => frame m ρ trivial
theorem frame_5 : Cert.quiescent_ReferenceIdeal_pre_rolled_by_5_ReferenceIdeal := fun m ρ _ => frame m ρ trivial
theorem frame_6 : Cert.quiescent_ReferenceIdeal_pre_rolled_by_6_ReferenceIdeal := fun m ρ _ => frame m ρ trivial
theorem frame_7 : Cert.quiescent_ReferenceIdeal_pre_rolled_by_7_ReferenceIdeal := fun m ρ _ => frame m ρ trivial

end Cert.PermProof.Ref

end
-- ==== Proof.Chunks.lean ====
/-
# The kernel's body, chunk by chunk

The rows of the shard travel in eight chunks. Everything the body names for chunk `k` — its rows of the shard, of the
quantised buffers and of the result, its scale block, the staging slot, the semaphores — is one family over `k`, and so
are the three values it computes: the chunk's scale, the quantised chunk and the dequantised chunk. The printed body is
then a straight line of phases, one per chunk (`body_eq`).
-/
module

public import proofs.«01_k».proof.Proof.Gen.KernelIdeal
public import proofs.«01_k».proof.Proof.Gen.KernelIdeal.Skeleton
public import Idealize.ShloMosaic.Lib.Tactic

@[expose] public section

noncomputable section

namespace Cert.PermProof

open Cert.KernelIdeal Cert.KernelIdeal.Gen

open Idealize.ShloMosaic
open Idealize.ShloMosaic.TcCoe
open Idealize.SL.Sem

variable {F : FTy → Type} [FloatOps F]

/-! ## Sizes, shapes -/

/-- The rows of chunk `k`. -/
abbrev sz : Fin 8 → ℕ := ![64, 128, 256, 384, 448, 384, 256, 128]
/-- The first row of chunk `k`. -/
abbrev lo : Fin 8 → ℕ := ![0, 64, 192, 448, 832, 1280, 1664, 1920]
/-- The staging slot chunk `k` uses. -/
abbrev sl : Fin 8 → ℕ := ![0, 1, 0, 1, 0, 1, 0, 1]

abbrev QS (k : Fin 8) : Shape := ⟨2, ![sz k, 1024]⟩
abbrev BS (k : Fin 8) : Shape := ⟨3, ![1, sz k, 1024]⟩

theorem inbQ : ∀ k a, (![lo k, 0] : Fin 2 → ℕ) a + (QS k).size a ≤ S2048x1024.size a := by decide
theorem inbX : ∀ k a, (![0, lo k, 0] : Fin 3 → ℕ) a + (BS k).size a ≤ S1x2048x1024.size a := by decide
theorem inbV : ∀ k a, (![sl k, 0, 0] : Fin 3 → ℕ) a + (BS k).size a ≤ S2x448x1024.size a := by decide
theorem inbS : ∀ (k : Fin 8) a, (![k.val, 0, 0] : Fin 3 → ℕ) a + S1x8x128.size a ≤ S8x8x128.size a := by decide
theorem inbS1 : ∀ (k : Fin 8) a, (![k.val, 0, 0] : Fin 3 → ℕ) a + S1x1x1.size a ≤ S8x8x128.size a := by decide
theorem inb8 : ∀ (k : Fin 8) a, (![k.val] : Fin 1 → ℕ) a + S1.size a ≤ S8.size a := by decide
theorem inb2 : ∀ (k : Fin 8) a, (![sl k] : Fin 1 → ℕ) a + S1.size a ≤ S2.size a := by decide
theorem sqB : ∀ k, (BS k).Squeezes (QS k) := by decide
theorem posB : ∀ k, 0 < (BS k).numel := by decide
theorem posQ : ∀ k, 0 < (QS k).numel := by decide
theorem castBQ : ∀ k, (BS k).ShapeCasts (QS k) := by decide
theorem castQB : ∀ k, (QS k).ShapeCasts (BS k) := by decide
theorem castQQ : ∀ k, (QS k).ShapeCasts (QS k) := by decide
theorem redB : ∀ k, (BS k).Reduces [1, 2] S1 := by decide
theorem bcQ : ∀ k, S1x1.Broadcasts (QS k) := by decide

/-! ## Rectangles and memrefs -/

abbrev rQ (k : Fin 8) : Rect S2048x1024 := Rect.unit (s := S2048x1024) ![lo k, 0] (QS k).size (inbQ k)
abbrev rX (k : Fin 8) : Rect S1x2048x1024 := Rect.unit (s := S1x2048x1024) ![0, lo k, 0] (BS k).size (inbX k)
abbrev rV (k : Fin 8) : Rect S2x448x1024 := Rect.unit (s := S2x448x1024) ![sl k, 0, 0] (BS k).size (inbV k)
abbrev rS (k : Fin 8) : Rect S8x8x128 := Rect.unit (s := S8x8x128) ![k.val, 0, 0] S1x8x128.size (inbS k)
abbrev rS1 (k : Fin 8) : Rect S8x8x128 := Rect.unit (s := S8x8x128) ![k.val, 0, 0] S1x1x1.size (inbS1 k)

abbrev piM : Memref sig .tc .smem S8 .i32 := Memref.whole cc0_stg0_0
abbrev xM : Memref sig .tc .hbm S1x2048x1024 .f32 := Memref.whole main_arg0
abbrev oM : Memref sig .tc .hbm S1x2048x1024 .bf16 := Memref.whole main_v1
abbrev xvM : Memref sig .tc .vmem S2x448x1024 .f32 := Memref.whole cc0_scratch0
abbrev qbM : Memref sig .tc .vmem S2048x1024 .i8 := Memref.whole cc0_scratch1
abbrev sbM : Memref sig .tc .vmem S8x8x128 .f32 := Memref.whole cc0_scratch2
abbrev qrM : Memref sig .tc .vmem S2048x1024 .i8 := Memref.whole cc0_scratch3
abbrev srM : Memref sig .tc .vmem S8x8x128 .f32 := Memref.whole cc0_scratch4
abbrev ovM : Memref sig .tc .vmem S2x448x1024 .bf16 := Memref.whole cc0_scratch5

/-- Chunk `k`: its rows of the shard, its slot of the loading buffer, -/
abbrev xP (k : Fin 8) : Memref sig .tc .hbm (QS k) .f32 := (xM.slice (rX k) (fun _ => rfl)).squeeze (QS k) (sqB k)
abbrev xvP (k : Fin 8) : Memref sig .tc .vmem (QS k) .f32 := (xvM.slice (rV k) (fun _ => rfl)).squeeze (QS k) (sqB k)
/-- its quantised rows and its scale block, on the sending and on the receiving side, -/
abbrev qbP (k : Fin 8) : Memref sig .tc .vmem (QS k) .i8 := qbM.slice (rQ k) (fun _ => rfl)
abbrev qrP (k : Fin 8) : Memref sig .tc .vmem (QS k) .i8 := qrM.slice (rQ k) (fun _ => rfl)
abbrev sbP (k : Fin 8) : Memref sig .tc .vmem S8x128 .f32 := (sbM.slice (rS k) (fun _ => rfl)).squeeze S8x128 squeezes_S1x8x128_S8x128
abbrev srP (k : Fin 8) : Memref sig .tc .vmem S8x128 .f32 := (srM.slice (rS k) (fun _ => rfl)).squeeze S8x128 squeezes_S1x8x128_S8x128
/-- its slot of the storing buffer and its rows of the result. -/
abbrev ovP (k : Fin 8) : Memref sig .tc .vmem (QS k) .bf16 := (ovM.slice (rV k) (fun _ => rfl)).squeeze (QS k) (sqB k)
abbrev oP (k : Fin 8) : Memref sig .tc .hbm (QS k) .bf16 := (oM.slice (rX k) (fun _ => rfl)).squeeze (QS k) (sqB k)

/-! ## Semaphores -/

abbrev ldS (k : Fin 8) : DmaSem sig := ((cc0_scratch6.slice (Rect.unit (s := S2) ![sl k] S1.size (inb2 k))).squeeze S_ squeezes_S1_S_).sem
abbrev qsS (k : Fin 8) : DmaSem sig := ((cc0_scratch7.slice (Rect.unit (s := S8) ![k.val] S1.size (inb8 k))).squeeze S_ squeezes_S1_S_).sem
abbrev qrS (k : Fin 8) : DmaSem sig := ((cc0_scratch8.slice (Rect.unit (s := S8) ![k.val] S1.size (inb8 k))).squeeze S_ squeezes_S1_S_).sem
abbrev ssS (k : Fin 8) : DmaSem sig := ((cc0_scratch9.slice (Rect.unit (s := S8) ![k.val] S1.size (inb8 k))).squeeze S_ squeezes_S1_S_).sem
abbrev srS (k : Fin 8) : DmaSem sig := ((cc0_scratch10.slice (Rect.unit (s := S8) ![k.val] S1.size (inb8 k))).squeeze S_ squeezes_S1_S_).sem
abbrev stS (k : Fin 8) : DmaSem sig := ((cc0_scratch11.slice (Rect.unit (s := S2) ![sl k] S1.size (inb2 k))).squeeze S_ squeezes_S1_S_).sem
abbrev barS : Sem sig := (SemArray.scalar (sig.barrier 0 rfl) : Sems sig S_).sem

/-! ## What the body computes of a chunk -/

/-- The chunk's scale: the largest magnitude in it, at least the small constant. -/
def kScale (k : Fin 8) (v : Vec F (BS k) .f32) : F .f32 :=
  Scalar.maximumf
    (extractAt ![0, 0, 0]
      (shapeCast S1x1x1
        (multiReduction .maximumf [1, 2] S1 (shapeCast (BS k) (absf (shapeCast (QS k) v (castBQ k))) (castQB k)) 0xFF800000#32 (redB k) (.inl rfl) rfl)
        shapeCasts_S1_S1x1x1)
      inpos_S1x1x1_p0_0_0)
    (Scalar.ofBits .f32 0x0DA24260#32)

/-- The quantised chunk. -/
def kQuant (k : Fin 8) (v : Vec F (BS k) .f32) : IVec (QS k) 8 :=
  shapeCast (QS k)
    (fptosi 8
      (minimumf (broadcast (QS k) (Scalar.ofBits .f32 0x42FE0000#32))
        (maximumf (broadcast (QS k) (Scalar.ofBits .f32 0xC2FE0000#32))
          (roundeven (mulf (shapeCast (QS k) v (castBQ k))
            (broadcast (QS k) (Scalar.divf (Scalar.ofBits .f32 0x42FE0000#32) (kScale k v))))))))
    (castQQ k)

/-- The chunk's scale block: the scale, everywhere. -/
def kScales (k : Fin 8) (v : Vec F (BS k) .f32) : FVec F S1x8x128 .f32 :=
  shapeCast S1x8x128 (broadcast S8x128 (kScale k v)) shapeCasts_S8x128_S1x8x128

/-- The dequantised chunk, of a received scale and quantised chunk. -/
def kOut (k : Fin 8) (s : Vec F S1x1x1 .f32) (q : Vec F (QS k) .i8) : FVec F (BS k) .bf16 :=
  shapeCast (BS k)
    (truncf .bf16
      (mulf (sitofp .f32 q)
        (broadcastTo (QS k) (mulf (shapeCast S1x1 s shapeCasts_S1x1x1_S1x1) (broadcast S1x1 (Scalar.ofBits .f32 0x3C010204#32))) (bcQ k)))
      bitsLt_bf16_f32)
    (castQB k)

/-! ## The body's operations -/

/-- A program of the body. -/
abbrev Pg (F : FTy → Type) (α : Type) := Prog (TpuEff nD τ sig (Elt F) Λ₀ .tc) α

theorem packQ : ∀ k, (rQ k).PackedRows (EltTy.packing .i8) := by decide
theorem wordsQ : ∀ k, (rQ k).WholeWords (EltTy.packing .i8) := by decide
theorem packV : ∀ k, (rV k).PackedRows (EltTy.packing .bf16) := by decide
theorem wordsV : ∀ k, (rV k).WholeWords (EltTy.packing .bf16) := by decide
theorem wordsX : ∀ k, (rX k).WholeWords (EltTy.packing .bf16) := by decide

theorem wexQb (k : Fin 8) : (qbP k).view.WordExact := (Memref.isWhole_whole cc0_scratch1).wordExact_slice rfl _ (wordsQ k)
theorem wexQr (k : Fin 8) : (qrP k).view.WordExact := (Memref.isWhole_whole cc0_scratch3).wordExact_slice rfl _ (wordsQ k)
theorem wexOv (k : Fin 8) : (ovP k).view.WordExact := ((Memref.isWhole_whole cc0_scratch5).wordExact_slice rfl _ (wordsV k)).reshape _ _
theorem wexO (k : Fin 8) : (oP k).view.WordExact := ((Memref.isWhole_whole main_v1).wordExact_slice rfl _ (wordsX k)).reshape _ _
theorem wexX (k : Fin 8) : (xP k).view.WordExact := (View.wordExact_bits rfl).reshape _ _
theorem wexXv (k : Fin 8) : (xvP k).view.WordExact := (View.wordExact_bits rfl).reshape _ _
theorem wexSb (k : Fin 8) : (sbP k).view.WordExact := (View.wordExact_bits rfl).reshape _ _
theorem wexSr (k : Fin 8) : (srP k).view.WordExact := (View.wordExact_bits rfl).reshape _ _

/-- Start, and wait for, the load of chunk `k` into its slot; -/
def eStart (k : Fin 8) : Pg F PUnit :=
  Prog.lift (.enqueueDma (xP k) (.here (xvP k)) (.dma (ldS k)) (wexX k) (wexXv k) ⟨Or.inl rfl, trivial⟩)
def eLoaded (k : Fin 8) : Pg F PUnit :=
  Prog.lift (.waitDma2 (ldS k) (xP k) (xvP k) (wexX k) (wexXv k))
/-- read it, -/
def eGet (k : Fin 8) : Pg F (Vec F (BS k) .f32) :=
  Prog.lift (.load xvM (rV k).toLoadRect (View.loadsAt_vmem (posB k)))
/-- put its quantised rows and its scale block into the sending buffers (each store after a read of what it overwrites), -/
def ePutQ (k : Fin 8) (w : IVec (QS k) 8) : Pg F PUnit := do
  let _ ← Prog.lift (.load qbM (rQ k).toLoadRect (View.loadsAt_vmem (posQ k)))
  Prog.lift (.store qbM (rQ k) w Finset.univ (View.stores_vmem (posQ k) ((Memref.isWhole_whole cc0_scratch1).storeExact_slice rfl _ (packQ k)) (fun _ => rfl)) (.inl rfl))
def ePutS (k : Fin 8) (w : FVec F S1x8x128 .f32) : Pg F PUnit := do
  let _ ← Prog.lift (.load sbM (rS k).toLoadRect (View.loadsAt_vmem h_S1x8x128))
  Prog.lift (.store sbM (rS k) w Finset.univ (View.stores_vmem_bits_univ h_S1x8x128 rfl) (.inl rfl))
/-- send both to device `d`; -/
def eSendS (k : Fin 8) (d : Dev nD) : Pg F PUnit :=
  Prog.lift (.enqueueDma (sbP k) (.remote (Dev.tc d) (srP k) (.dma (ssS k))) (.dma (srS k)) (wexSb k) (wexSr k) ⟨⟨rfl, Or.inl rfl⟩, trivial⟩)
def eSendQ (k : Fin 8) (d : Dev nD) : Pg F PUnit :=
  Prog.lift (.enqueueDma (qbP k) (.remote (Dev.tc d) (qrP k) (.dma (qsS k))) (.dma (qrS k)) (wexQb k) (wexQr k) ⟨⟨rfl, Or.inl rfl⟩, trivial⟩)
/-- wait for the two that come in, -/
def eRecvS (k : Fin 8) : Pg F PUnit :=
  Prog.lift (.waitDma2 (srS k) (sbP k) (srP k) (wexSb k) (wexSr k))
def eRecvQ (k : Fin 8) : Pg F PUnit :=
  Prog.lift (.waitDma2 (qrS k) (qbP k) (qrP k) (wexQb k) (wexQr k))
/-- read the scale and the rows, -/
def eScale (k : Fin 8) : Pg F (Vec F S1x1x1 .f32) :=
  Prog.lift (.load srM (rS1 k).toLoadRect (View.loadsAt_vmem h_S1x1x1))
def eRows (k : Fin 8) : Pg F (Vec F (QS k) .i8) :=
  Prog.lift (.load qrM (rQ k).toLoadRect (View.loadsAt_vmem (posQ k)))
/-- put the dequantised chunk into its slot of the storing buffer, start its store, wait for it; -/
def ePutO (k : Fin 8) (w : FVec F (BS k) .bf16) : Pg F PUnit := do
  let _ ← Prog.lift (.load ovM (rV k).toLoadRect (View.loadsAt_vmem (posB k)))
  Prog.lift (.store ovM (rV k) w Finset.univ (View.stores_vmem (posB k) ((Memref.isWhole_whole cc0_scratch5).storeExact_slice rfl _ (packV k)) (fun _ => rfl)) (.inl rfl))
def eStore (k : Fin 8) : Pg F PUnit :=
  Prog.lift (.enqueueDma (ovP k) (.here (oP k)) (.dma (stS k)) (wexOv k) (wexO k) ⟨Or.inl rfl, trivial⟩)
def eStored (k : Fin 8) : Pg F PUnit :=
  Prog.lift (.waitDma2 (stS k) (ovP k) (oP k) (wexOv k) (wexO k))
/-- wait for the two sends. -/
def eSentS (k : Fin 8) : Pg F PUnit :=
  Prog.lift (.waitDma2 (ssS k) (srP k) (sbP k) (wexSr k) (wexSb k))
def eSentQ (k : Fin 8) : Pg F PUnit :=
  Prog.lift (.waitDma2 (qsS k) (qrP k) (qbP k) (wexQr k) (wexQb k))

/-! ## The phases -/

/-- Chunk `k` taken in and written to the sending buffers. -/
def pIn (k : Fin 8) : Pg F PUnit := do
  eLoaded k
  let v ← eGet k
  ePutQ k (kQuant k v)
  ePutS k (kScales k v)
/-- Chunk `k` sent. -/
def pSend (k : Fin 8) (d : Dev nD) : Pg F PUnit := do
  eSendS k d
  eSendQ k d
/-- Chunk `k` received. -/
def pRecv (k : Fin 8) : Pg F PUnit := do
  eRecvS k
  eRecvQ k
/-- Chunk `k` dequantised and its store started. -/
def pOut (k : Fin 8) : Pg F PUnit := do
  let s ← eScale k
  let q ← eRows k
  ePutO k (kOut k s q)
  eStore k
/-- Chunk `k`'s sends done. -/
def pSent (k : Fin 8) : Pg F PUnit := do
  eSentS k
  eSentQ k

/-- The head of the body: the table read, the device this one sends to, the signal to the device it receives from. -/
def pHead : Pg F (Dev nD) := do
  let d0 : Dev nD ← Prog.lift .deviceId
  let v4 : Elt F .i32 ← smemLoad piM (Rect.unit (s := S8) (k0_off1 d0) S1.size (k0_off1_inb d0)) numel1_S1 rfl
  have hw2 : k0_chk2 v4 := (← Prog.lift (TpuEff.assume (k0_chk2 v4) (k0_chk2.dec v4))).down
  let v5 : Elt F .i32 ← smemLoad piM (Rect.unit (s := S8) ![0] S1.size inb_S8_S1_0) numel1_S1 rfl
  let v8 : Elt F .i32 ← smemLoad piM (Rect.unit (s := S8) ![1] S1.size inb_S8_S1_1) numel1_S1 rfl
  let v11 : Elt F .i32 ← smemLoad piM (Rect.unit (s := S8) ![2] S1.size inb_S8_S1_2) numel1_S1 rfl
  let v14 : Elt F .i32 ← smemLoad piM (Rect.unit (s := S8) ![3] S1.size inb_S8_S1_3) numel1_S1 rfl
  let v17 : Elt F .i32 ← smemLoad piM (Rect.unit (s := S8) ![4] S1.size inb_S8_S1_4) numel1_S1 rfl
  let v20 : Elt F .i32 ← smemLoad piM (Rect.unit (s := S8) ![5] S1.size inb_S8_S1_5) numel1_S1 rfl
  let v23 : Elt F .i32 ← smemLoad piM (Rect.unit (s := S8) ![6] S1.size inb_S8_S1_6) numel1_S1 rfl
  let v26 : Elt F .i32 ← smemLoad piM (Rect.unit (s := S8) ![7] S1.size inb_S8_S1_7) numel1_S1 rfl
  have hw1 : k0_chk1 d0 v5 v8 v11 v14 v17 v20 v23 v26 := (← Prog.lift (TpuEff.assume (k0_chk1 d0 v5 v8 v11 v14 v17 v20 v23 v26) (k0_chk1.dec d0 v5 v8 v11 v14 v17 v20 v23 v26))).down
  semSignalWord (⟨k0_dev1 d0 v5 v8 v11 v14 v17 v20 v23 v26, k0_dev1_lt d0 v5 v8 v11 v14 v17 v20 v23 v26 hw1⟩ : Dev nD) barS 1#32
  pure (⟨k0_dev2 v4, k0_dev2_lt v4 hw2⟩ : Dev nD)

/-- The body after its head, sending to device `d`. -/
def pRest (d : Dev nD) : Pg F PUnit := do
  eStart 0; eStart 1; pIn 0; semWaitWord barS 1#32; pSend 0 d
  eStart 2; pIn 1; pSend 1 d
  eStart 3; pIn 2; pSend 2 d
  eStart 4; pIn 3; pSend 3 d
  eStart 5; pIn 4; pSend 4 d
  eStart 6; pIn 5; pSend 5 d
  eStart 7; pIn 6; pSend 6 d
  pIn 7; pSend 7 d
  pRecv 0; pOut 0
  pRecv 1; pOut 1
  pRecv 2; eStored 0; pOut 2
  pRecv 3; eStored 1; pOut 3
  pRecv 4; eStored 2; pOut 4
  pRecv 5; eStored 3; pOut 5
  pRecv 6; eStored 4; pOut 6
  pRecv 7; eStored 5; pOut 7
  eStored 6; eStored 7
  pSent 0; pSent 1; pSent 2; pSent 3; pSent 4; pSent 5; pSent 6; pSent 7

set_option maxRecDepth 65536 in
set_option maxHeartbeats 4000000 in
/-- The printed body is the phases in order. -/
theorem body_eq :
    cc0_body (F := F) piM (Memref.isWhole_whole _) xM (Memref.isWhole_whole _) oM (Memref.isWhole_whole _) xvM (Memref.isWhole_whole _)
      qbM (Memref.isWhole_whole _) sbM (Memref.isWhole_whole _) qrM (Memref.isWhole_whole _) srM (Memref.isWhole_whole _)
      ovM (Memref.isWhole_whole _) cc0_scratch6 cc0_scratch7 cc0_scratch8 cc0_scratch9 cc0_scratch10 cc0_scratch11
      = (do let d ← pHead; pRest d) := rfl

end Cert.PermProof

end
-- ==== Proof.Protocol.lean ====
/-
# The protocol of the exchange

Device `c` sends its shard to `σ c` and receives from `σ.symm c`, for a permutation `σ` of the devices (the table every
device holds). Chunk by chunk, two copies go to `σ c`: the quantised rows and the scale block. The semaphores:

* the barrier: `c` waits for one unit; the one signaller is the device `c` sends to, `σ c` (each device signals the device
  it receives from). That unit hands `c` the landing rows and the landing scale blocks of `σ c`, at any contents.
* for chunk `k`, the receive semaphores of `c`: the copies of `σ.symm c` raise them by the copy's size. They hand `c` its
  landing rows holding the quantised chunk of `σ.symm c`, and its landing scale block holding that chunk's scale.
* for chunk `k`, the send semaphores of `c`: its own copies raise them, and hand back the rows sent.

What is owed at the start: to `σ.symm c`'s barrier one unit; to the receive semaphores of `σ c` the sixteen copies. The
barrier comes first, the receive semaphores after it, so no wait goes round in a circle.
-/
module

public import proofs.«01_k».proof.Proof.Chunks
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.PermProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The algebra: the pipeline's rounds, the exchange's rounds, the counters of the local copies -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (((Emb.inl : Emb UB (UB × Counters)).trans (Emb.inr : Emb (UB × Counters) UU)).trans
    (uEmb (nD := nD) (sig := sig) (Ix := Unit) (Val := Elt F) (Name := ℕ) (U := UU) (Lvl := ℕ)).toEmb)
abbrev EC : UEmb Counters (MT nD τ sig Unit (Elt F) ℕ UU ℕ) := countersEmb (U := UU)

omit [FloatOps F] in
instance ER_lands : (ER (F := F)).LandsIn (upEmb : UEmb _ 𝕄) := by unfold ER; infer_instance
abbrev 𝒱₀ : Variants := Variants.none

/-- The weakest precondition of a piece of the body on device `c`. -/
abbrev WP {α : Type} (c : Dev nD) (p : Pg F α) (Q : α → sProp 𝕄) : sProp 𝕄 :=
  wp frame (wpE (defs₀ (F := F)) 𝒱₀ (c : Thread nD τ) none) Set.univ p Q

variable (m : (ℓ : Loc nD τ sig) → Buf (Elt F) ℓ) (ρ : Dev nD → PrngReg) (σ : Equiv.Perm (Dev nD))

/-- The memory at launch: arbitrary contents, every semaphore counter zero, arbitrary generator registers. -/
def s₀ : MemSt nD τ sig (Elt F) := ⟨m, fun _ => 0, ρ⟩

/-! ## Cells -/

/-- The DMA semaphore of kind `p.1` (rows sent, rows received, scales sent, scales received) and chunk `p.2`. -/
def xsem (p : Fin 4 × Fin 8) : DmaSem sig := ⟨3 + 8 * p.1.val + p.2.val, by have := p.1.isLt; have := p.2.isLt; show _ < 37; omega⟩

theorem qsS_eq (k : Fin 8) : qsS k = xsem (0, k) := by revert k; decide
theorem qrS_eq (k : Fin 8) : qrS k = xsem (1, k) := by revert k; decide
theorem ssS_eq (k : Fin 8) : ssS k = xsem (2, k) := by revert k; decide
theorem srS_eq (k : Fin 8) : srS k = xsem (3, k) := by revert k; decide

/-- Kind and chunk of a DMA semaphore. -/
def kindOf (s : DmaSem sig) : Fin 4 × Fin 8 := (⟨(s.val - 3) / 8 % 4, Nat.mod_lt _ (by decide)⟩, ⟨(s.val - 3) % 8, Nat.mod_lt _ (by decide)⟩)

theorem kindOf_xsem (p : Fin 4 × Fin 8) : kindOf (xsem p) = p := by revert p; decide
theorem xsem_inj : Function.Injective xsem := fun p q h => by rw [← kindOf_xsem p, h, kindOf_xsem]

abbrev barCell (c : Dev nD) : GSem nD τ sig := ((c : Thread nD τ), .reg barS)
abbrev xcell (c : Dev nD) (p : Fin 4 × Fin 8) : GSem nD τ sig := ((c : Thread nD τ), .dma (xsem p))

/-- The size of a rows copy and of a scale copy, as the semaphores count. -/
def NQ (k : Fin 8) : ℕ := (qrP k).view.dmaCredit
def NS (k : Fin 8) : ℕ := (srP k).view.dmaCredit
theorem NQ_pos (k : Fin 8) : 0 < NQ k := View.dmaCredit_pos _ (posQ k)
theorem NS_pos (k : Fin 8) : 0 < NS k := View.dmaCredit_pos _ (by decide)

/-- What a cell of kind and chunk `p` counts to. -/
def NX (p : Fin 4 × Fin 8) : ℕ := if p.1.val < 2 then NQ p.2 else NS p.2
theorem NX_pos (p : Fin 4 × Fin 8) : 0 < NX p := by unfold NX; split; exacts [NQ_pos _, NS_pos _]

/-! ## Contents -/

/-- Chunk `k` of device `c`'s shard. -/
def X (c : Dev nD) (k : Fin 8) : Vec F (BS k) .f32 :=
  (xM.slice (rX k) (fun _ => rfl)).view.read (Elt F) (m ((c : Thread nD τ).loc main_arg0))

/-- The landing scale block as a block of rank three. -/
abbrev srB (k : Fin 8) : Memref sig .tc .vmem S1x8x128 .f32 := srM.slice (rS k) (fun _ => rfl)
/-- The rows of chunk `k` in the result, as a block of rank three. -/
abbrev oB (k : Fin 8) : Memref sig .tc .hbm (BS k) .bf16 := oM.slice (rX k) (fun _ => rfl)

/-- What chunk `k` of device `c`'s result holds. -/
def outK (c : Dev nD) (k : Fin 8) : FVec F (BS k) .bf16 :=
  kOut k (fun _ => kScale k (X m (σ.symm c) k)) (kQuant k (X m (σ.symm c) k))

/-! ## Pieces of the buffers -/

section Pieces
variable (c : Dev nD) (k : Fin 8)

def xPc : sProp 𝕄 := (xP k).view.loc (c : Thread nD τ) ↦[(xP k).view.set]{fullShare} (m ((c : Thread nD τ).loc main_arg0))
def qbPc : sProp 𝕄 := iprop(∃ f, (qbP k).view.loc (c : Thread nD τ) ↦[(qbP k).view.set]{fullShare} f)
def sbPc : sProp 𝕄 := iprop(∃ f, (sbP k).view.loc (c : Thread nD τ) ↦[(sbP k).view.set]{fullShare} f)
def qrPc : sProp 𝕄 := iprop(∃ f, (qrP k).view.loc (c : Thread nD τ) ↦[(qrP k).view.set]{fullShare} f)
def srPc : sProp 𝕄 := iprop(∃ f, (srP k).view.loc (c : Thread nD τ) ↦[(srP k).view.set]{fullShare} f)
def oPc : sProp 𝕄 := iprop(∃ f, (oP k).view.loc (c : Thread nD τ) ↦[(oP k).view.set]{fullShare} f)
/-- The landed rows and the landed scale block. -/
def qLanded : sProp 𝕄 := owns (c : Thread nD τ) (qrP k) fullShare (kQuant k (X m (σ.symm c) k))
def sLanded : sProp 𝕄 := owns (c : Thread nD τ) (srB k) fullShare (fun _ => kScale k (X m (σ.symm c) k))
/-- The stored rows. -/
def oDone : sProp 𝕄 := owns (c : Thread nD τ) (oB k) fullShare (outK m σ c k)

omit [FloatOps F] in
instance qbPc_st : BI.Storable (upEmb : UEmb _ 𝕄) (qbPc (F := F) c k) := by unfold qbPc; infer_instance
omit [FloatOps F] in
instance sbPc_st : BI.Storable (upEmb : UEmb _ 𝕄) (sbPc (F := F) c k) := by unfold sbPc; infer_instance
omit [FloatOps F] in
instance qrPc_st : BI.Storable (upEmb : UEmb _ 𝕄) (qrPc (F := F) c k) := by unfold qrPc; infer_instance
omit [FloatOps F] in
instance srPc_st : BI.Storable (upEmb : UEmb _ 𝕄) (srPc (F := F) c k) := by unfold srPc; infer_instance
instance qLanded_st : BI.Storable (upEmb : UEmb _ 𝕄) (qLanded m σ c k) := by unfold qLanded; infer_instance
instance sLanded_st : BI.Storable (upEmb : UEmb _ 𝕄) (sLanded m σ c k) := by unfold sLanded; infer_instance
end Pieces

/-- The landing buffers of device `d`. -/
def lands (d : Dev nD) : sProp 𝕄 := bigSep Finset.univ fun k : Fin 8 => iprop(qrPc d k ∗ srPc d k)

omit [FloatOps F] in
instance lands_st (d : Dev nD) : BI.Storable (upEmb : UEmb _ 𝕄) (lands (F := F) d) := by unfold lands; infer_instance

/-! ## The schedule -/

/-- What a copy's cell of kind and chunk `p` hands device `c`. -/
def xPay (c : Dev nD) (p : Fin 4 × Fin 8) : sProp 𝕄 :=
  match p.1 with
  | 0 => qbPc c p.2
  | 1 => qLanded m σ c p.2
  | 2 => sbPc c p.2
  | 3 => sLanded m σ c p.2

instance xPay_st (c : Dev nD) (p : Fin 4 × Fin 8) : BI.Storable (upEmb : UEmb _ 𝕄) (xPay m σ c p) := by
  obtain ⟨a, k⟩ := p
  fin_cases a
  · exact qbPc_st c k
  · exact qLanded_st m σ c k
  · exact sbPc_st c k
  · exact sLanded_st m σ c k

/-- One round; every cell one duty. -/
def Rd : Rounds.Schedule (GSem nD τ sig) Unit 𝕄 where
  duties _ r := if r = 0 then {()} else ∅
  unitless _ := False
  amount g _ _ := match g.2 with
    | .reg _ => 1
    | .dma s => NX (kindOf s)
  payload g _ _ := match g.2 with
    | .reg _ => lands (σ g.1.1)
    | .dma s => xPay m σ g.1.1 (kindOf s)
  amount_pos g _ _ _ := by
    obtain ⟨t, s⟩ := g
    cases s with
    | reg _ => exact Nat.one_pos
    | dma s => exact NX_pos _

instance Rd_st (g : GSem nD τ sig) (r : ℕ) (d : Unit) : BI.Storable (upEmb : UEmb _ 𝕄) ((Rd (F := F) m σ).payload g r d) := by
  obtain ⟨t, s⟩ := g
  cases s with
  | reg _ => exact lands_st _
  | dma s => exact xPay_st m σ _ _

section Sched
variable (c : Dev nD) (p : Fin 4 × Fin 8)

theorem duties_zero (g : GSem nD τ sig) : (Rd (F := F) m σ).duties g 0 = {()} := rfl
theorem duties_later (g : GSem nD τ sig) : ∀ r, 1 ≤ r → (Rd (F := F) m σ).duties g r = ∅ :=
  fun r hr => if_neg (by omega)
theorem duty_mem (g : GSem nD τ sig) : () ∈ (Rd (F := F) m σ).duties g 0 := Finset.mem_singleton_self _
theorem amount_bar : (Rd (F := F) m σ).amount (barCell c) 0 () = 1 := rfl
theorem amount_x : (Rd (F := F) m σ).amount (xcell c p) 0 () = NX p := by
  show NX (kindOf (xsem p)) = _; rw [kindOf_xsem]
theorem expect_bar : (Rd (F := F) m σ).expect (barCell c) 0 = 1 := by
  unfold Schedule.expect Schedule.amountOf; rw [duties_zero, Finset.sum_singleton, amount_bar]
theorem expect_x : (Rd (F := F) m σ).expect (xcell c p) 0 = NX p := by
  unfold Schedule.expect Schedule.amountOf; rw [duties_zero, Finset.sum_singleton, amount_x]
theorem payload_bar : (Rd (F := F) m σ).payload (barCell c) 0 () = lands (σ c) := rfl
theorem payload_x : (Rd (F := F) m σ).payload (xcell c p) 0 () = xPay m σ c p := by
  show xPay m σ c (kindOf (xsem p)) = _; rw [kindOf_xsem]
theorem rest_bar : bigSep ((Rd (F := F) m σ).duties (barCell c) 0 \ ∅) (fun d => (Rd (F := F) m σ).payload (barCell c) 0 d) = lands (σ c) := by
  rw [Finset.sdiff_empty, duties_zero, bigSep_singleton]; rfl
theorem rest_x : bigSep ((Rd (F := F) m σ).duties (xcell c p) 0 \ ∅) (fun d => (Rd (F := F) m σ).payload (xcell c p) 0 d) = xPay m σ c p := by
  rw [Finset.sdiff_empty, duties_zero, bigSep_singleton, payload_x]
end Sched

/-! ## What each device owes; the levels -/

/-- The credit of the copies of the chunks `ks` to device `d`, the first chunk's outermost, its scale copy first. -/
def owedL (d : Dev nD) : List (Fin 8) → CellTallies nD τ sig Unit
  | [] => 0
  | k :: ks => (owedL d ks + tallyAt (xcell d (1, k)) () (NQ k)) + tallyAt (xcell d (3, k)) () (NS k)

abbrev allK : List (Fin 8) := [0, 1, 2, 3, 4, 5, 6, 7]

def O₀ (c : Dev nD) : CellTallies nD τ sig Unit := owedL (σ c) allK + tallyAt (barCell (σ.symm c)) () 1

def L (g : GSem nD τ sig) : Finset Unit := if g.1.2 = .tc then {()} else ∅
/-- The barrier at 1, the receive semaphores at 2, everything else at 0. -/
def lv (g : GSem nD τ sig) (_ : Unit) : ℕ := match g.2 with
  | .reg _ => 1
  | .dma s => if (11 ≤ s.val ∧ s.val < 19) ∨ 27 ≤ s.val ∧ s.val < 35 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (d : Dev nD) (a : Fin 4) (ha : a = 1 ∨ a = 3) (k : Fin 8) : lv (xcell d (a, k)) () = 2 := by
  rcases ha with rfl | rfl <;> exact if_pos (by revert k; decide)

theorem tallyAt_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem owedL_pos {d : Dev nD} : ∀ {ks : List (Fin 8)} {g : GSem nD τ sig} {u : Unit}, 0 < owedL d ks g u →
    ∃ a k, (a = 1 ∨ a = 3) ∧ g = xcell d (a, k)
  | [], g, u, h => absurd h (Nat.lt_irrefl 0)
  | k :: ks, g, u, h => by
    unfold owedL at h
    rw [Pi.add_apply, Finsupp.add_apply, Pi.add_apply, Finsupp.add_apply] at h
    by_cases h1 : 0 < tallyAt (xcell d (3, k)) () (NS k) g u
    · exact ⟨3, k, .inr rfl, tallyAt_pos h1⟩
    · by_cases h2 : 0 < tallyAt (xcell d (1, k)) () (NQ k) g u
      · exact ⟨1, k, .inl rfl, tallyAt_pos h2⟩
      · have h3 : 0 < owedL d ks g u := by omega
        exact owedL_pos h3

theorem O₀_pos {c : Dev nD} {g : GSem nD τ sig} {u : Unit} (h : 0 < O₀ σ c g u) :
    (∃ a k, (a = 1 ∨ a = 3) ∧ g = xcell (σ c) (a, k)) ∨ g = barCell (σ.symm c) := by
  unfold O₀ at h
  rw [Pi.add_apply, Finsupp.add_apply] at h
  by_cases h1 : 0 < tallyAt (barCell (σ.symm c)) () 1 g u
  · exact .inr (tallyAt_pos h1)
  · have h3 : 0 < owedL (σ c) allK g u := by omega
    exact .inl (owedL_pos h3)

omit [FloatOps F] in
/-- A device that owes copies only may wait on its barrier and on what is below it; -/
theorem mayWait_owed (c d : Dev nD) (ks : List (Fin 8)) (sm : SemLoc sig) (h : lv ((c : Thread nD τ), sm) () ≤ 1) :
    (levAts L lv : sProp 𝕄) ⊢ MayWait (c : Thread nD τ) sm () (owedL d ks) :=
  MayOwe.of_cut (L := L) (lev := lv) 1 (fun p hp => by rw [Finset.mem_singleton.mp hp, L_tc]; exact Finset.mem_singleton_self _)
    (fun g u hg => by obtain ⟨a, k, ha, rfl⟩ := owedL_pos hg; rw [L_tc]; exact Finset.mem_singleton_self _)
    (fun p hp => by rw [Finset.mem_singleton.mp hp]; exact h)
    (fun g u hg => by obtain ⟨a, k, ha, rfl⟩ := owedL_pos hg; rw [show lv _ u = 2 from lv_recv d a ha k]; decide)

omit [FloatOps F] in
/-- a device that owes everything may wait on what is below the barrier. -/
theorem mayWait_first (c : Dev nD) (sm : SemLoc sig) (h : lv ((c : Thread nD τ), sm) () = 0) :
    (levAts L lv : sProp 𝕄) ⊢ MayWait (c : Thread nD τ) sm () (O₀ σ c) :=
  MayOwe.of_cut (L := L) (lev := lv) 0 (fun p hp => by rw [Finset.mem_singleton.mp hp, L_tc]; exact Finset.mem_singleton_self _)
    (fun g u hg => by rcases O₀_pos σ hg with ⟨a, k, ha, rfl⟩ | rfl <;> (rw [L_tc]; exact Finset.mem_singleton_self _))
    (fun p hp => by rw [Finset.mem_singleton.mp hp]; exact h.le)
    (fun g u hg => by
      rcases O₀_pos σ hg with ⟨a, k, ha, rfl⟩ | rfl
      · rw [show lv _ u = 2 from lv_recv _ a ha k]; decide
      · exact Nat.one_pos)

theorem ldS_lv (c : Dev nD) (k : Fin 8) : lv ((c : Thread nD τ), .dma (ldS k)) () = 0 := if_neg (by revert k; decide)

/-! ## The invariants -/

/-- The exchange's cells of one device. -/
abbrev CI : Type := Option (Fin 4 × Fin 8)
def ccell (c : Dev nD) : CI → GSem nD τ sig
  | none => barCell c
  | some p => xcell c p

/-- Every cell's invariant, at the names `K`, and that its round has begun. -/
def records (K : Dev nD × CI → ℕ) : sProp 𝕄 :=
  iprop(bigSep Finset.univ (fun q : Dev nD × CI => cellInv ER (Rd m σ) (K q) (ccell q.1 q.2))
    ∗ bigSep Finset.univ (fun q : Dev nD × CI => reached ER (ccell q.1 q.2) 0))

instance records_persistent (K : Dev nD × CI → ℕ) : BI.Persistent (records m σ K) := by unfold records; infer_instance

theorem all_inv (K : Dev nD × CI → ℕ) (q : Dev nD × CI) :
    (bigSep Finset.univ fun q : Dev nD × CI => (cellInv ER (Rd m σ) (K q) (ccell q.1 q.2) : sProp 𝕄)) ⊢ cellInv ER (Rd m σ) (K q) (ccell q.1 q.2) :=
  bigSep_elim (Finset.mem_univ q)
omit [FloatOps F] in
theorem all_reached (q : Dev nD × CI) :
    (bigSep Finset.univ fun q : Dev nD × CI => (reached ER (ccell q.1 q.2) 0 : sProp 𝕄)) ⊢ reached ER (ccell q.1 q.2) 0 :=
  bigSep_elim (Finset.mem_univ q)

theorem inv_at (K : Dev nD × CI → ℕ) (c : Dev nD) (i : CI) : records m σ K ⊢ cellInv ER (Rd m σ) (K (c, i)) (ccell c i) := by
  unfold records
  iintro ⟨H, -⟩
  iapply (all_inv m σ K (c, i)); iexact H

theorem reached_at (K : Dev nD × CI → ℕ) (c : Dev nD) (i : CI) : records m σ K ⊢ reached ER (ccell c i) 0 := by
  unfold records
  iintro ⟨-, H⟩
  iapply (all_reached (F := F) (c, i)); iexact H

end Cert.PermProof

end
-- ==== Proof.Phases.lean ====
/-
# The phases of one chunk

What each phase of chunk `k` takes and gives, at a device `c`, for any `k`.
-/
module

public import proofs.«01_k».proof.Proof.Protocol

@[expose] public section

noncomputable section

namespace Cert.PermProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (σ : Equiv.Perm (Dev nD))

/-! ## Slots -/

/-- The slot of chunk `k`. -/
abbrev sj : Fin 8 → Fin 2 := ![0, 1, 0, 1, 0, 1, 0, 1]
theorem sl_sj (k : Fin 8) : sl k = (sj k).val := by revert k; decide
theorem inbJ : ∀ (j : Fin 2) a, (![j.val, 0, 0] : Fin 3 → ℕ) a + (![1, 448, 1024] : Fin 3 → ℕ) a ≤ S2x448x1024.size a := by decide
abbrev rJ (j : Fin 2) : Rect S2x448x1024 := Rect.unit (s := S2x448x1024) ![j.val, 0, 0] ![1, 448, 1024] (inbJ j)

theorem sz_le (k : Fin 8) : sz k ≤ 448 := by revert k; decide

theorem rV_sub (k : Fin 8) : (rV k).set ⊆ (rJ (sj k)).set := by
  intro i hi
  rw [Rect.mem_set_unit] at hi ⊢
  intro a
  have h := hi a
  have h1 := sl_sj k
  have h2 := sz_le k
  fin_cases a
  · have h : sl k ≤ (i 0).val ∧ (i 0).val < sl k + 1 := h
    show (sj k).val ≤ (i 0).val ∧ (i 0).val < (sj k).val + 1
    omega
  · have h : 0 ≤ (i 1).val ∧ (i 1).val < 0 + sz k := h
    show 0 ≤ (i 1).val ∧ (i 1).val < 0 + 448
    omega
  · exact h

theorem set_xvP (k : Fin 8) : (xvP k).view.set = (rV k).set := (View.set_reshape _ _).trans (View.set_slice_whole _ _)
theorem set_ovP (k : Fin 8) : (ovP k).view.set = (rV k).set := (View.set_reshape _ _).trans (View.set_slice_whole _ _)
theorem set_oP (k : Fin 8) : (oP k).view.set = (rX k).set := (View.set_reshape _ _).trans (View.set_slice_whole _ _)
theorem set_xP (k : Fin 8) : (xP k).view.set = (rX k).set := (View.set_reshape _ _).trans (View.set_slice_whole _ _)
theorem set_qbP (k : Fin 8) : (qbP k).view.set = (rQ k).set := View.set_slice_whole _ _
theorem set_qrP (k : Fin 8) : (qrP k).view.set = (rQ k).set := View.set_slice_whole _ _
theorem set_sbP (k : Fin 8) : (sbP k).view.set = (rS k).set := (View.set_reshape _ _).trans (View.set_slice_whole _ _)
theorem set_srP (k : Fin 8) : (srP k).view.set = (rS k).set := (View.set_reshape _ _).trans (View.set_slice_whole _ _)
theorem set_srB (k : Fin 8) : (srB k).view.set = (rS k).set := View.set_slice_whole _ _
theorem set_oB (k : Fin 8) : (oB k).view.set = (rX k).set := View.set_slice_whole _ _

/-- A block copied between two views of one shape, both read flat, lands as it was. -/
theorem read_copied {κ κ' : Kind} {sp sp' : Space} {s s' : Shape} {e : EltTy} (Val : EltTy → Type)
    (v₁ : View sig κ sp s e) (v₂ : View sig κ' sp' s e) (h : s'.numel = s.numel) (f : v₂.ty.Contents Val) (g : v₁.ty.Contents Val) :
    v₂.read Val ((v₂.reshape s' h).write Val f ((v₁.reshape s' h).read Val g) Finset.univ) = v₁.read Val g := by
  funext x
  obtain ⟨y, rfl⟩ := (Shape.reshapeEquiv h).surjective x
  exact View.read_write_of_mem (v := v₂.reshape s' h) f ((v₁.reshape s' h).read Val g) (Finset.mem_univ y)

theorem kScales_eq (k : Fin 8) (v : Vec F (BS k) .f32) : kScales k v = fun _ => kScale k v := rfl

/-! ## Resources -/

/-- The load semaphore and the store semaphore of slot `j`. -/
def ldJ (j : Fin 2) : DmaSem sig := ⟨1 + j.val, by have := j.isLt; show _ < 37; omega⟩
def stJ (j : Fin 2) : DmaSem sig := ⟨35 + j.val, by have := j.isLt; show _ < 37; omega⟩
theorem ldS_eq (k : Fin 8) : ldS k = ldJ (sj k) := by revert k; decide
theorem stS_eq (k : Fin 8) : stS k = stJ (sj k) := by revert k; decide

section Res
variable (c : Dev nD) (k : Fin 8) (j : Fin 2)

def own (O : CellTallies nD τ sig Unit) : sProp 𝕄 := iprop(∃ W, owes (c : Thread nD τ) O W)

def xvSlot : sProp 𝕄 := iprop(∃ f, xvM.view.loc (c : Thread nD τ) ↦[(rJ j).set]{fullShare} f)
def ovSlot : sProp 𝕄 := iprop(∃ f, ovM.view.loc (c : Thread nD τ) ↦[(rJ j).set]{fullShare} f)
/-- The slot holding chunk `k`. -/
def xvHeld : sProp 𝕄 := iprop(∃ f, ⌜(xvM.slice (rV k) (fun _ => rfl)).view.read (Elt F) f = X m c k⌝ ∗ xvM.view.loc (c : Thread nD τ) ↦[(rJ (sj k)).set]{fullShare} f)

abbrev sbB : Memref sig .tc .vmem S1x8x128 .f32 := sbM.slice (rS k) (fun _ => rfl)
theorem set_sbB : (sbB k).view.set = (rS k).set := View.set_slice_whole _ _
/-- The sending buffers holding chunk `k`. -/
def qbF : sProp 𝕄 := owns (c : Thread nD τ) (qbP k) fullShare (kQuant k (X m c k))
def sbF : sProp 𝕄 := owns (c : Thread nD τ) (sbB k) fullShare (fun _ => kScale k (X m c k))

def NL : ℕ := (xvP k).view.dmaCredit
def NO : ℕ := (oP k).view.dmaCredit
theorem NL_pos : 0 < NL k := View.dmaCredit_pos _ (posQ k)
theorem NO_pos : 0 < NO k := View.dmaCredit_pos _ (posQ k)

/-- Chunk `k`'s load under way. -/
def loading : sProp 𝕄 := Flight EC (c : Thread nD τ) (.dma (ldJ (sj k))) () (NL k) iprop(xvHeld m c k ∗ xPc m c k)
/-- Chunk `k`'s store under way: its rows come back, and the result's rows hold it; the rest of the slot stays here. -/
def storing : sProp 𝕄 :=
  iprop(Flight EC (c : Thread nD τ) (.dma (stJ (sj k))) () (NO k)
      iprop((∃ f, ovM.view.loc (c : Thread nD τ) ↦[(rV k).set]{fullShare} f) ∗ oDone m σ c k)
    ∗ ∃ f, ovM.view.loc (c : Thread nD τ) ↦[(rJ (sj k)).set \ (rV k).set]{fullShare} f)
end Res

/-! ## The loads -/

theorem t_start (c : Dev nD) (k : Fin 8) (Q : PUnit → sProp 𝕄) :
    iprop(xPc m c k ∗ xvSlot c (sj k) ∗ semVal ((c : Thread nD τ), .dma (ldJ (sj k))) 0 ∗ (loading m c k -∗ Q ⟨⟩))
      ⊢ WP c (eStart k) Q := by
  unfold eStart xPc xvSlot WP
  rw [← ldS_eq]
  iintro ⟨Hx, ⟨%f, Hv⟩, Hs, Hk⟩
  simp only [Prog.lift]
  iapply (Transfers.wp_dmaLocal EC 𝒱₀ (c : Thread nD τ) none (src := xP k) (dst := xvP k) (Sd := (rJ (sj k)).set) (fs := m ((c : Thread nD τ).loc main_arg0)) (fd := f) () (NL k) rfl (NL_pos k)
    (by rw [set_xvP]; exact rV_sub k)) $$ [Hx Hv Hs]
  · isplitl [Hx]; · iexact Hx
    isplitl [Hv]; · iexact Hv
    iexact Hs
  iintro HF
  rw [wp_ret]; imodintro
  iapply Hk
  unfold loading
  rw [← ldS_eq]
  iapply (Transfers.Flight_mono (EC := EC) (c := (c : Thread nD τ)) ?_) $$ HF
  unfold xvHeld xPc
  iintro ⟨Hv, Hx⟩
  isplitl [Hv]
  · iexists _
    isplitr
    swap
    · iexact Hv
    ipureintro
    exact read_copied (Elt F) (xM.slice (rX k) (fun _ => rfl)).view (xvM.slice (rV k) (fun _ => rfl)).view _ f (m ((c : Thread nD τ).loc main_arg0))
  iexact Hx

theorem t_in (c : Dev nD) (k : Fin 8) (O : CellTallies nD τ sig Unit) (hO : (levAts L lv : sProp 𝕄) ⊢ MayWait (c : Thread nD τ) (.dma (ldJ (sj k))) () O)
    (Q : PUnit → sProp 𝕄) :
    iprop(levAts L lv ∗ loading m c k ∗ qbPc c k ∗ sbPc c k ∗ own c O
        ∗ ((xvSlot c (sj k) ∗ semVal ((c : Thread nD τ), .dma (ldJ (sj k))) 0 ∗ xPc m c k ∗ qbF m c k ∗ sbF m c k ∗ own c O) -∗ Q ⟨⟩))
      ⊢ WP c (pIn k) Q := by
  unfold pIn eLoaded eGet ePutQ ePutS loading own qbPc sbPc WP
  rw [← ldS_eq] at hO ⊢
  iintro ⟨#Hlev, HF, ⟨%fq, Hq⟩, ⟨%fs, Hs⟩, ⟨%W, HO⟩, Hk⟩
  simp only [Prog.lift, Prog.bind_op, Prog.bind_ret]
  iapply (Transfers.wp_waitLocalO EC 𝒱₀ (c : Thread nD τ) none () (N := NL k) rfl) $$ [HF HO]
  · isplitl [HF]; · iexact HF
    isplitl [HO]; · iexact HO
    iapply hO; iexact Hlev
  iintro ⟨⟨Hv, Hx⟩, Hz, HO⟩
  unfold xvHeld
  icases Hv with ⟨%f, %hf, Hv⟩
  iapply (wp_load 𝒱₀ (c : Thread nD τ) none Set.univ (m := xvM) (S := (rJ (sj k)).set)
    (by rw [show xvM.view.setOn (rV k).toLoadRect.set = (rV k).set from Finset.map_refl]; exact rV_sub k)) $$ Hv
  iintro Hv
  rw [show xvM.view.readAt (Elt F) (rV k).toLoadRect f = X m c k from hf]
  iapply (wp_load 𝒱₀ (c : Thread nD τ) none Set.univ (m := qbM) (S := (qbP k).view.set)
    (by rw [show qbM.view.setOn (rQ k).toLoadRect.set = (rQ k).set from Finset.map_refl, set_qbP])) $$ Hq
  iintro Hq
  iapply (wp_store 𝒱₀ (c : Thread nD τ) none Set.univ (m := qbM) (r := rQ k) (Mk := Finset.univ) (S := (qbP k).view.set) (Finset.Subset.refl _)) $$ Hq
  iintro Hq
  iapply (wp_load 𝒱₀ (c : Thread nD τ) none Set.univ (m := sbM) (S := (sbP k).view.set)
    (by rw [show sbM.view.setOn (rS k).toLoadRect.set = (rS k).set from Finset.map_refl, set_sbP])) $$ Hs
  iintro Hs
  iapply (wp_store 𝒱₀ (c : Thread nD τ) none Set.univ (m := sbM) (r := rS k) (Mk := Finset.univ) (S := (sbP k).view.set)
    (by rw [set_sbP]; exact (View.set_slice_whole _ _).le)) $$ Hs
  iintro Hs
  rw [wp_ret]; imodintro
  iapply Hk
  unfold xvSlot qbF sbF owns
  isplitl [Hv]; · iexists _; iexact Hv
  isplitl [Hz]; · iexact Hz
  isplitl [Hx]; · iexact Hx
  isplitl [Hq]
  · iexists _
    isplitr
    swap
    · iexact Hq
    ipureintro; exact View.read_write_univ _ _
  isplitl [Hs]
  · iexists _
    isplitr
    swap
    · rw [show (sbB k).view.set = (sbP k).view.set from (set_sbB k).trans (set_sbP k).symm]
      iexact Hs
    ipureintro; exact (View.read_write_univ _ _).trans (kScales_eq k _)
  iexists _; iexact HO

/-! ## The sends -/

theorem t_send (K : Dev nD × CI → ℕ) (c : Dev nD) (k : Fin 8) (ks : List (Fin 8)) (Q : PUnit → sProp 𝕄) :
    iprop(records m σ K ∗ qbF m c k ∗ sbF m c k ∗ (qrPc (σ c) k ∗ srPc (σ c) k) ∗ own c (owedL (σ c) (k :: ks))
        ∗ (dutyTok ER (xcell c (0, k)) 0 () ∗ dutyTok ER (xcell c (2, k)) 0 ()
          ∗ dutyTok ER (xcell (σ c) (1, k)) 0 () ∗ dutyTok ER (xcell (σ c) (3, k)) 0 ())
        ∗ ((cred (tallyAt (xcell c (0, k)) () (NQ k)) ∗ cred (tallyAt (xcell c (2, k)) () (NS k)) ∗ own c (owedL (σ c) ks)) -∗ Q ⟨⟩))
      ⊢ WP c (pSend k (σ c)) Q := by
  unfold pSend eSendS eSendQ own qbF sbF qrPc srPc owns WP
  iintro ⟨#HR, ⟨%fq, %hq, Hq⟩, ⟨%fs, %hs, Hs⟩, ⟨⟨%gq, Gq⟩, ⟨%gs, Gs⟩⟩, ⟨%W, HO⟩, ⟨T0, T2, T1, T3⟩, Hk⟩
  simp only [Prog.lift, Prog.bind_op, Prog.bind_ret]
  simp only [qsS_eq, qrS_eq, ssS_eq, srS_eq]
  iapply (Rounds.wp_send_pointsTo 𝒱₀ ER (Rd m σ) (c : Thread nD τ) none (c' := (σ c : Thread nD τ)) (src := sbP k) (dst := srP k)
    (κ₁ := K (c, some (2, k))) (κ₂ := K (σ c, some (3, k))) (r₁ := 0) (r₂ := 0) (d₁ := ()) (d₂ := ()) (fs := fs) (fd := gs)
    (duty_mem m σ _) (duty_mem m σ _) () () (NS k) rfl (amount_x m σ c (2, k)) (amount_x m σ (σ c) (3, k))
    (owedL (σ c) ks + tallyAt (xcell (σ c) (1, k)) () (NQ k)) rfl (W := W)
    (by rw [payload_x]; show _ ⊢ sbPc c k; unfold sbPc; iintro H; iexists _; iexact H)
    (by
      rw [payload_x]; show _ ⊢ sLanded m σ (σ c) k
      unfold sLanded owns
      iintro H; iexists _
      isplitr
      swap
      · rw [show (srB k).view.set = (srP k).view.set from (set_srB k).trans (set_srP k).symm]
        iexact H
      ipureintro
      rw [Equiv.symm_apply_apply]
      exact (read_copied (Elt F) (sbB k).view (srB k).view _ gs fs).trans hs)) $$ [Hs Gs HO T2 T3]
  · isplitr; · iapply (inv_at m σ K c (some (2, k))); iexact HR
    isplitr; · iapply (inv_at m σ K (σ c) (some (3, k))); iexact HR
    isplitl [Hs]
    · rw [show (sbP k).view.set = (sbB k).view.set from (set_sbP k).trans (set_sbB k).symm]; iexact Hs
    isplitl [Gs]; · iexact Gs
    isplitl [HO]; · iexact HO
    isplitl [T2]; · iexact T2
    isplitr; · iapply (reached_at m σ K c (some (2, k))); iexact HR
    isplitl [T3]; · iexact T3
    iapply (reached_at m σ K (σ c) (some (3, k))); iexact HR
  iintro ⟨C2, HO⟩
  iapply (Rounds.wp_send_pointsTo 𝒱₀ ER (Rd m σ) (c : Thread nD τ) none (c' := (σ c : Thread nD τ)) (src := qbP k) (dst := qrP k)
    (κ₁ := K (c, some (0, k))) (κ₂ := K (σ c, some (1, k))) (r₁ := 0) (r₂ := 0) (d₁ := ()) (d₂ := ()) (fs := fq) (fd := gq)
    (duty_mem m σ _) (duty_mem m σ _) () () (NQ k) rfl (amount_x m σ c (0, k)) (amount_x m σ (σ c) (1, k))
    (owedL (σ c) ks) rfl (W := W)
    (by rw [payload_x]; show _ ⊢ qbPc c k; unfold qbPc; iintro H; iexists _; iexact H)
    (by
      rw [payload_x]; show _ ⊢ qLanded m σ (σ c) k
      unfold qLanded owns
      iintro H; iexists _
      isplitr
      swap
      · iexact H
      ipureintro
      rw [Equiv.symm_apply_apply]
      exact (View.read_write_univ _ _).trans hq)) $$ [Hq Gq HO T0 T1]
  · isplitr; · iapply (inv_at m σ K c (some (0, k))); iexact HR
    isplitr; · iapply (inv_at m σ K (σ c) (some (1, k))); iexact HR
    isplitl [Hq]; · iexact Hq
    isplitl [Gq]; · iexact Gq
    isplitl [HO]; · iexact HO
    isplitl [T0]; · iexact T0
    isplitr; · iapply (reached_at m σ K c (some (0, k))); iexact HR
    isplitl [T1]; · iexact T1
    iapply (reached_at m σ K (σ c) (some (1, k))); iexact HR
  iintro ⟨C0, HO⟩
  rw [wp_ret]; imodintro
  iapply Hk
  isplitl [C0]; · iexact C0
  isplitl [C2]; · iexact C2
  iexists _; iexact HO

/-! ## The waits of the exchange -/

/-- The wait on the cell of kind and chunk `p`, nothing owed: what its copy hands over, and the semaphore at zero, done with. -/
theorem t_wait (K : Dev nD × CI → ℕ) (c : Dev nD) (p : Fin 4 × Fin 8) {sem : DmaSem sig} (hsem : sem = xsem p)
    {sp sp' : Space} {s s' : Shape} {e e' : EltTy} {srcw : Memref sig .tc sp' s' e'} {dstw : Memref sig .tc sp s e}
    {hsrc : srcw.view.WordExact} {hdst : dstw.view.WordExact} (hN : dstw.view.dmaCredit = NX p) (Q : PUnit → sProp 𝕄) :
    iprop(records m σ K ∗ cred (tallyAt (xcell c p) () (NX p)) ∗ atPos ER (xcell c p) 0 ∅ 0 ∗ own c 0
        ∗ ((xPay m σ c p ∗ semVal (xcell c p) 0 ∗ own c 0) -∗ Q ⟨⟩))
      ⊢ WP c (Prog.lift (.waitDma2 sem srcw dstw hsrc hdst)) Q := by
  subst hsem
  rw [← hN]
  unfold own WP
  iintro ⟨#HR, HC, HA, ⟨%W, HO⟩, Hk⟩
  simp only [Prog.lift]
  iapply (Rounds.wp_wait_rest_token 𝒱₀ ER (Rd m σ) (c : Thread nD τ) none (κ := K (c, some p))
      (wpE_waitDma2_eq 𝒱₀ (c : Thread nD τ) none Set.univ) (Set.mem_univ _) () (O := 0) (W := W) (R := 0) (m := 0) (T := ∅)
      (by rw [Nat.zero_add, expect_x, hN])) $$ [HC HO HA]
  · isplitr; · iapply (inv_at m σ K c (some p)); iexact HR
    isplitl [HC]; · iexact HC
    isplitl [HO]; · iexact HO
    isplitr; · rw [MayWait_zero]; iempintro
    iexact HA
  iintro ⟨HO, HA, -, Hpay⟩
  ihave Hp := (Entails.of_eq (rest_x m σ c p)) $$ Hpay
  imod (Rounds.cell_close ER (Rd m σ) (Set.mem_univ (K (c, some p))) (fun h => h) (R := 0 + 1) (duties_later m σ (xcell c p))) $$ [HA] with Hz
  · isplitr; · iapply (inv_at m σ K c (some p)); iexact HR
    iexact HA
  rw [wp_ret]; imodintro
  iapply Hk
  isplitl [Hp]; · iexact Hp
  isplitl [Hz]; · iexact Hz
  iexists _; iexact HO

section
variable (c : Dev nD) (k : Fin 8)
theorem xPay_0 : xPay m σ c (0, k) = qbPc c k := rfl
theorem xPay_1 : xPay m σ c (1, k) = qLanded m σ c k := rfl
theorem xPay_2 : xPay m σ c (2, k) = sbPc c k := rfl
theorem xPay_3 : xPay m σ c (3, k) = sLanded m σ c k := rfl
theorem credit_sb : (sbP k).view.dmaCredit = NX (2, k) := by
  show _ = NS k
  unfold NS View.dmaCredit; with_unfolding_all rfl
theorem credit_qb : (qbP k).view.dmaCredit = NX (0, k) := by
  show _ = NQ k
  unfold NQ View.dmaCredit; with_unfolding_all rfl
theorem NX_0 : NX (0, k) = NQ k := rfl
theorem NX_1 : NX (1, k) = NQ k := rfl
theorem NX_2 : NX (2, k) = NS k := rfl
theorem NX_3 : NX (3, k) = NS k := rfl
end

theorem t_recv (K : Dev nD × CI → ℕ) (c : Dev nD) (k : Fin 8) (Q : PUnit → sProp 𝕄) :
    iprop(records m σ K ∗ (cred (tallyAt (xcell c (1, k)) () (NQ k)) ∗ cred (tallyAt (xcell c (3, k)) () (NS k)))
        ∗ (atPos ER (xcell c (1, k)) 0 ∅ 0 ∗ atPos ER (xcell c (3, k)) 0 ∅ 0) ∗ own c 0
        ∗ ((qLanded m σ c k ∗ sLanded m σ c k ∗ (semVal (xcell c (1, k)) 0 ∗ semVal (xcell c (3, k)) 0) ∗ own c 0) -∗ Q ⟨⟩))
      ⊢ WP c (pRecv k) Q := by
  unfold pRecv
  iintro ⟨#HR, ⟨C1, C3⟩, ⟨A1, A3⟩, HO, Hk⟩
  unfold WP
  rw [wp_bind]
  iapply (t_wait m σ K c (3, k) (srS_eq k) (hN := rfl))
  isplitr; · iexact HR
  isplitl [C3]; · iexact C3
  isplitl [A3]; · iexact A3
  isplitl [HO]; · iexact HO
  rw [xPay_3]
  iintro ⟨P3, Z3, HO⟩
  iapply (t_wait m σ K c (1, k) (qrS_eq k) (hN := rfl))
  isplitr; · iexact HR
  isplitl [C1]; · iexact C1
  isplitl [A1]; · iexact A1
  isplitl [HO]; · iexact HO
  rw [xPay_1]
  iintro ⟨P1, Z1, HO⟩
  iapply Hk
  isplitl [P1]; · iexact P1
  isplitl [P3]; · iexact P3
  isplitl [Z1 Z3]; · isplitl [Z1] <;> iassumption
  iexact HO

theorem t_sent (K : Dev nD × CI → ℕ) (c : Dev nD) (k : Fin 8) (Q : PUnit → sProp 𝕄) :
    iprop(records m σ K ∗ (cred (tallyAt (xcell c (0, k)) () (NQ k)) ∗ cred (tallyAt (xcell c (2, k)) () (NS k)))
        ∗ (atPos ER (xcell c (0, k)) 0 ∅ 0 ∗ atPos ER (xcell c (2, k)) 0 ∅ 0) ∗ own c 0
        ∗ ((qbPc c k ∗ sbPc c k ∗ (semVal (xcell c (0, k)) 0 ∗ semVal (xcell c (2, k)) 0) ∗ own c 0) -∗ Q ⟨⟩))
      ⊢ WP c (pSent k) Q := by
  unfold pSent
  iintro ⟨#HR, ⟨C1, C3⟩, ⟨A1, A3⟩, HO, Hk⟩
  unfold WP
  rw [wp_bind]
  iapply (t_wait m σ K c (2, k) (ssS_eq k) (hN := credit_sb k))
  isplitr; · iexact HR
  isplitl [C3]; · iexact C3
  isplitl [A3]; · iexact A3
  isplitl [HO]; · iexact HO
  rw [xPay_2]
  iintro ⟨P3, Z3, HO⟩
  iapply (t_wait m σ K c (0, k) (qsS_eq k) (hN := credit_qb k))
  isplitr; · iexact HR
  isplitl [C1]; · iexact C1
  isplitl [A1]; · iexact A1
  isplitl [HO]; · iexact HO
  rw [xPay_0]
  iintro ⟨P1, Z1, HO⟩
  iapply Hk
  isplitl [P1]; · iexact P1
  isplitl [P3]; · iexact P3
  isplitl [Z1 Z3]; · isplitl [Z1] <;> iassumption
  iexact HO

/-! ## The stores -/

/-- The one element of the landed scale block that is read. -/
theorem read_scale (k : Fin 8) (f : srM.view.ty.Contents (Elt F)) (a : F .f32) (h : (srB k).view.read (Elt F) f = fun _ => a) :
    srM.view.readAt (Elt F) (rS1 k).toLoadRect f = fun _ => a := by
  funext x
  have h1 := congrFun h (fun i => ⟨(x i).val, by
    have hx := (x i).isLt
    revert hx; fin_cases i
    · exact fun hx => hx
    · exact fun hx => lt_trans hx (show (1 : ℕ) < 8 by decide)
    · exact fun hx => lt_trans hx (show (1 : ℕ) < 128 by decide)⟩)
  exact h1

theorem rS1_sub (k : Fin 8) : (rS1 k).set ⊆ (rS k).set := by
  intro i hi
  rw [Rect.mem_set_unit] at hi ⊢
  intro a
  have h := hi a
  fin_cases a
  · exact h
  · exact ⟨h.1, lt_of_lt_of_le h.2 (show 0 + 1 ≤ 0 + 8 by decide)⟩
  · exact ⟨h.1, lt_of_lt_of_le h.2 (show 0 + 1 ≤ 0 + 128 by decide)⟩

theorem t_out (c : Dev nD) (k : Fin 8) (Q : PUnit → sProp 𝕄) :
    iprop(qLanded m σ c k ∗ sLanded m σ c k ∗ ovSlot c (sj k) ∗ oPc c k ∗ semVal ((c : Thread nD τ), .dma (stJ (sj k))) 0
        ∗ ((qrPc c k ∗ srPc c k ∗ storing m σ c k) -∗ Q ⟨⟩))
      ⊢ WP c (pOut k) Q := by
  unfold pOut eScale eRows ePutO eStore qLanded sLanded ovSlot oPc owns WP
  rw [← stS_eq]
  iintro ⟨⟨%fq, %hq, Hq⟩, ⟨%fs, %hs, Hs⟩, ⟨%fv, Hv⟩, ⟨%fo, Ho⟩, Hz, Hk⟩
  simp only [Prog.lift, Prog.bind_op, Prog.bind_ret]
  iapply (wp_load 𝒱₀ (c : Thread nD τ) none Set.univ (m := srM) (S := (srB k).view.set)
    (by rw [show srM.view.setOn (rS1 k).toLoadRect.set = (rS1 k).set from Finset.map_refl, set_srB]; exact rS1_sub k)) $$ Hs
  iintro Hs
  rw [read_scale k fs _ hs]
  iapply (wp_load 𝒱₀ (c : Thread nD τ) none Set.univ (m := qrM) (S := (qrP k).view.set)
    (by rw [show qrM.view.setOn (rQ k).toLoadRect.set = (rQ k).set from Finset.map_refl, set_qrP])) $$ Hq
  iintro Hq
  rw [show qrM.view.readAt (Elt F) (rQ k).toLoadRect fq = kQuant k (X m (σ.symm c) k) from hq]
  iapply (wp_load 𝒱₀ (c : Thread nD τ) none Set.univ (m := ovM) (S := (rJ (sj k)).set)
    (by rw [show ovM.view.setOn (rV k).toLoadRect.set = (rV k).set from Finset.map_refl]; exact rV_sub k)) $$ Hv
  iintro Hv
  iapply (wp_store 𝒱₀ (c : Thread nD τ) none Set.univ (m := ovM) (r := rV k) (Mk := Finset.univ) (S := (rJ (sj k)).set)
    (by rw [show (ovM.access (rV k)).setOn Finset.univ = (rV k).set from View.set_slice_whole _ _]; exact rV_sub k)) $$ Hv
  iintro Hv
  ihave Hv := (pointsTo_split_subset (rV_sub k)).1 $$ Hv
  icases Hv with ⟨Hw, Hv⟩
  iapply (Transfers.wp_dmaLocal EC 𝒱₀ (c : Thread nD τ) none (src := ovP k) (dst := oP k) (Sd := (oP k).view.set)
    (fs := (ovM.access (rV k)).write (Elt F) fv (kOut k (fun _ => kScale k (X m (σ.symm c) k)) (kQuant k (X m (σ.symm c) k))) Finset.univ) (fd := fo) () (NO k) rfl (NO_pos k)
    (Finset.Subset.refl _)) $$ [Hw Ho Hz]
  · isplitl [Hw]; · rw [set_ovP]; iexact Hw
    isplitl [Ho]; · iexact Ho
    iexact Hz
  iintro HF
  rw [wp_ret]; imodintro
  iapply Hk
  unfold qrPc srPc storing
  isplitl [Hq]; · iexists _; iexact Hq
  isplitl [Hs]
  · iexists _; rw [show (srP k).view.set = (srB k).view.set from (set_srP k).trans (set_srB k).symm]; iexact Hs
  isplitl [HF]
  · rw [← stS_eq]
    iapply (Transfers.Flight_mono (EC := EC) (c := (c : Thread nD τ)) ?_) $$ HF
    unfold oDone owns
    iintro ⟨Ho, Hw⟩
    isplitl [Hw]
    · iexists _; rw [← set_ovP]; iexact Hw
    iexists _
    isplitr
    swap
    · rw [show (oB k).view.set = (oP k).view.set from (set_oB k).trans (set_oP k).symm]
      iexact Ho
    ipureintro
    exact (read_copied (Elt F) (ovM.slice (rV k) (fun _ => rfl)).view (oB k).view _ fo _).trans (View.read_write_univ _ _)
  iexists _; iexact Hv

theorem t_stored (c : Dev nD) (k : Fin 8) (Q : PUnit → sProp 𝕄) :
    iprop(storing m σ c k ∗ own c 0
        ∗ ((ovSlot c (sj k) ∗ semVal ((c : Thread nD τ), .dma (stJ (sj k))) 0 ∗ oDone m σ c k ∗ own c 0) -∗ Q ⟨⟩))
      ⊢ WP c (eStored k) Q := by
  unfold eStored storing own WP
  rw [← stS_eq]
  iintro ⟨⟨HF, ⟨%g, Hv⟩⟩, ⟨%W, HO⟩, Hk⟩
  simp only [Prog.lift]
  iapply (Transfers.wp_waitLocalO EC 𝒱₀ (c : Thread nD τ) none () (N := NO k) (O := 0) rfl) $$ [HF HO]
  · isplitl [HF]; · iexact HF
    isplitl [HO]; · iexact HO
    rw [MayWait_zero]; iempintro
  iintro ⟨⟨⟨%f, Hw⟩, Ho⟩, Hz, HO⟩
  rw [wp_ret]; imodintro
  iapply Hk
  unfold ovSlot
  isplitl [Hw Hv]
  · iexists _
    iapply (pointsTo_join_subset (rV_sub k))
    isplitl [Hw]; · iexact Hw
    iexact Hv
  isplitl [Hz]; · iexact Hz
  isplitl [Ho]; · iexact Ho
  iexists _; iexact HO

end Cert.PermProof

end
-- ==== Proof.Body.lean ====
/-
# The body

The table's words name the device `c` sends to and the one it signals; the head of the body reads them and signals. The
rest is the phases of the eight chunks, in the order in which the body has them.
-/
module

public import proofs.«01_k».proof.Proof.Phases

@[expose] public section

noncomputable section

namespace Cert.PermProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (σ : Equiv.Perm (Dev nD))

/-! ## The table -/

def ix8 (j : Fin 8) : S8.Idx := fun a => ⟨j.val, by fin_cases a; exact j.isLt⟩

/-- The table lists `σ`. -/
def TableOK (f : (cc0_stg0_0 : Ref sig .tc).ty.Contents (Elt F)) : Prop := ∀ j : Fin 8, f (ix8 j) = BitVec.ofNat 32 (σ j).val

omit [FloatOps F] in
theorem read_table (off : Fin 1 → ℕ) (inb) (j : Fin 8) (hj : off 0 = j.val) (f : (cc0_stg0_0 : Ref sig .tc).ty.Contents (Elt F))
    (x : (Rect.unit (s := S8) off S1.size inb).shape.Idx) :
    (piM.access (Rect.unit (s := S8) off S1.size inb)).read (Elt F) f x = f (ix8 j) := by
  show f _ = f _
  congr 1
  funext a
  fin_cases a
  apply Fin.ext
  have hx : (x 0).val = 0 := Nat.lt_one_iff.mp (x 0).isLt
  show off 0 + 1 * (x 0).val = j.val
  omega

theorem off1_eq (c : Dev nD) : k0_off1 c 0 = c.val := by revert c; decide

/-- The comparison of a table word with the device's own number. -/
theorem cmp_word (a c : Fin 8) :
    Scalar.cmpi .eq (BitVec.ofNat 32 a.val) (Scalar.remsi (Scalar.divsi (Dev.word (nD := nD) c) 1#32) 8#32) = if a = c then 1#1 else 0#1 := by
  revert a c; decide

theorem dev1_eq (c : Dev nD) (w : Fin 8 → BitVec 32) (hw : ∀ j, w j = BitVec.ofNat 32 (σ j).val) :
    k0_dev1 c (w 0) (w 1) (w 2) (w 3) (w 4) (w 5) (w 6) (w 7) = (σ.symm c).val := by
  obtain ⟨j, rfl⟩ := σ.surjective c
  rw [Equiv.symm_apply_apply]
  unfold k0_dev1
  simp only [hw]
  rw [cmp_word (σ 0), cmp_word (σ 1), cmp_word (σ 2), cmp_word (σ 3), cmp_word (σ 4), cmp_word (σ 5), cmp_word (σ 6), cmp_word (σ 7)]
  simp only [EmbeddingLike.apply_eq_iff_eq]
  revert j
  decide

theorem dev2_eq (d : Dev nD) : k0_dev2 (BitVec.ofNat 32 d.val) = d.val := by revert d; decide
theorem chk2_ok (d : Dev nD) : k0_chk2 (BitVec.ofNat 32 d.val) := by revert d; decide

def tabPc (c : Dev nD) (f : (cc0_stg0_0 : Ref sig .tc).ty.Contents (Elt F)) : sProp 𝕄 :=
  ((c : Thread nD τ).loc cc0_stg0_0) ↦{fullShare} f

/-- One table word read. -/
theorem t_word (c : Dev nD) (off : Fin 1 → ℕ) (inb) (j : Fin 8) (hj : off 0 = j.val) (f : (cc0_stg0_0 : Ref sig .tc).ty.Contents (Elt F))
    (Q : Elt F .i32 → sProp 𝕄) :
    iprop(tabPc c f ∗ (tabPc c f -∗ Q (f (ix8 j))))
      ⊢ WP c (smemLoad piM (Rect.unit (s := S8) off S1.size inb) numel1_S1 rfl) Q := by
  unfold smemLoad WP tabPc
  iintro ⟨Ht, Hk⟩
  iapply (wp_smemLoadElt 𝒱₀ (c : Thread nD τ) none Set.univ (m := piM) (r := Rect.unit (s := S8) off S1.size inb)
    (S := Finset.univ) (f := f) (Finset.subset_univ _)) $$ Ht
  iintro Ht
  rw [wp_ret, read_table off inb j hj]
  imodintro
  iapply Hk; iexact Ht

/-- The head: the landing buffers go to the device that sends to this one. -/
theorem t_head (K : Dev nD × CI → ℕ) (c : Dev nD) (f : (cc0_stg0_0 : Ref sig .tc).ty.Contents (Elt F)) (hf : TableOK σ f) (Q : Dev nD → sProp 𝕄) :
    iprop(records m σ K ∗ tabPc c f ∗ lands c ∗ dutyTok ER (barCell (σ.symm c)) 0 () ∗ own c (O₀ σ c)
        ∗ ((tabPc c f ∗ own c (owedL (σ c) allK)) -∗ Q (σ c)))
      ⊢ WP c pHead Q := by
  have h1 : k0_dev1 c (f (ix8 0)) (f (ix8 1)) (f (ix8 2)) (f (ix8 3)) (f (ix8 4)) (f (ix8 5)) (f (ix8 6)) (f (ix8 7)) = (σ.symm c).val :=
    dev1_eq σ c (fun j => f (ix8 j)) hf
  have h2 : k0_dev2 (f (ix8 c)) = (σ c).val := by rw [hf c]; exact dev2_eq _
  have hc2 : k0_chk2 (f (ix8 c)) := by rw [hf c]; exact chk2_ok _
  have hc1 : k0_chk1 c (f (ix8 0)) (f (ix8 1)) (f (ix8 2)) (f (ix8 3)) (f (ix8 4)) (f (ix8 5)) (f (ix8 6)) (f (ix8 7)) := by
    show _ < nD
    rw [h1]; exact (σ.symm c).isLt
  unfold pHead WP own
  iintro ⟨#HR, Ht, Hl, HT, ⟨%W, HO⟩, Hk⟩
  rw [wp_bind]
  simp only [Prog.lift, wp_deviceId, wp_ret]
  imodintro
  rw [wp_bind]
  iapply (t_word c (k0_off1 c) _ c (off1_eq c) f)
  isplitl [Ht]; · iexact Ht
  iintro Ht
  rw [wp_bind]
  iapply (wp_assume 𝒱₀ (c : Thread nD τ) none Set.univ hc2)
  rw [wp_ret]
  imodintro
  rw [wp_bind]
  iapply (t_word c ![0] _ 0 rfl f)
  isplitl [Ht]; · iexact Ht
  iintro Ht
  rw [wp_bind]
  iapply (t_word c ![1] _ 1 rfl f)
  isplitl [Ht]; · iexact Ht
  iintro Ht
  rw [wp_bind]
  iapply (t_word c ![2] _ 2 rfl f)
  isplitl [Ht]; · iexact Ht
  iintro Ht
  rw [wp_bind]
  iapply (t_word c ![3] _ 3 rfl f)
  isplitl [Ht]; · iexact Ht
  iintro Ht
  rw [wp_bind]
  iapply (t_word c ![4] _ 4 rfl f)
  isplitl [Ht]; · iexact Ht
  iintro Ht
  rw [wp_bind]
  iapply (t_word c ![5] _ 5 rfl f)
  isplitl [Ht]; · iexact Ht
  iintro Ht
  rw [wp_bind]
  iapply (t_word c ![6] _ 6 rfl f)
  isplitl [Ht]; · iexact Ht
  iintro Ht
  rw [wp_bind]
  iapply (t_word c ![7] _ 7 rfl f)
  isplitl [Ht]; · iexact Ht
  iintro Ht
  rw [wp_bind]
  iapply (wp_assume 𝒱₀ (c : Thread nD τ) none Set.univ hc1)
  rw [wp_ret]
  imodintro
  have e1 : (⟨_, k0_dev1_lt c _ _ _ _ _ _ _ _ hc1⟩ : Dev nD) = σ.symm c := Fin.ext h1
  have e2 : (⟨_, k0_dev2_lt _ hc2⟩ : Dev nD) = σ c := Fin.ext h2
  simp only [e1, e2]
  rw [wp_bind]
  unfold semSignalWord
  iapply (Rounds.wp_signal 𝒱₀ ER (Rd m σ) (c : Thread nD τ) none (dst := ((σ.symm c : Dev nD) : Thread nD τ)) (κ := K (σ.symm c, none)) (d := ())
      (duty_mem m σ (barCell (σ.symm c))) ((amount_bar m σ (σ.symm c)).trans (by decide)) () (owedL (σ c) allK) rfl) $$ [HO HT Hl]
  · isplitr; · iapply (inv_at m σ K (σ.symm c) none); iexact HR
    isplitl [HO]; · iexact HO
    isplitl [HT]; · iexact HT
    isplitl [Hl]
    · rw [payload_bar, Equiv.apply_symm_apply]; iexact Hl
    iapply (reached_at m σ K (σ.symm c) none); iexact HR
  iintro HO
  rw [wp_ret]
  imodintro
  rw [Prog.pure_eq_ret, wp_ret]
  imodintro
  iapply Hk
  isplitl [Ht]; · iexact Ht
  iexists W; iexact HO

/-! ## What travels together -/

section Groups
variable (c : Dev nD) (k : Fin 8) (j : Fin 2)

/-- A slot of the two copies ahead, and of the two stores behind, with its idle semaphore. -/
def slotX : sProp 𝕄 := iprop(xvSlot c j ∗ semVal ((c : Thread nD τ), .dma (ldJ j)) 0)
def slotO : sProp 𝕄 := iprop(ovSlot c j ∗ semVal ((c : Thread nD τ), .dma (stJ j)) 0)
/-- What sending chunk `k` takes. -/
def toSend : sProp 𝕄 :=
  iprop(qbPc c k ∗ sbPc c k ∗ dutyTok ER (xcell c (0, k)) 0 () ∗ dutyTok ER (xcell c (2, k)) 0 ()
    ∗ dutyTok ER (xcell (σ c) (1, k)) 0 () ∗ dutyTok ER (xcell (σ c) (3, k)) 0 ())
def landPc : sProp 𝕄 := iprop(qrPc c k ∗ srPc c k)
/-- What waiting for the sends of chunk `k` takes. -/
def sentCr : sProp 𝕄 := iprop(cred (tallyAt (xcell c (0, k)) () (NQ k)) ∗ cred (tallyAt (xcell c (2, k)) () (NS k)))
def sentAt : sProp 𝕄 := iprop(atPos ER (xcell c (0, k)) 0 ∅ 0 ∗ atPos ER (xcell c (2, k)) 0 ∅ 0)
/-- What waiting for the arrival of chunk `k` takes. -/
def toRecv : sProp 𝕄 :=
  iprop((cred (tallyAt (xcell c (1, k)) () (NQ k)) ∗ cred (tallyAt (xcell c (3, k)) () (NS k)))
    ∗ (atPos ER (xcell c (1, k)) 0 ∅ 0 ∗ atPos ER (xcell c (3, k)) 0 ∅ 0))
/-- The landing buffers after their use, and the sending ones, with the semaphores back at zero. -/
def doneR : sProp 𝕄 := iprop(landPc c k ∗ semVal (xcell c (1, k)) 0 ∗ semVal (xcell c (3, k)) 0)
def doneS : sProp 𝕄 := iprop((qbPc c k ∗ sbPc c k) ∗ semVal (xcell c (0, k)) 0 ∗ semVal (xcell c (2, k)) 0)
end Groups

/-! ## The phases over the groups -/

section Steps
variable (K : Dev nD × CI → ℕ) (c : Dev nD) (k : Fin 8) (j : Fin 2)

theorem u_start (hj : sj k = j) (Q : PUnit → sProp 𝕄) :
    iprop(xPc m c k ∗ slotX c j ∗ (loading m c k -∗ Q ⟨⟩)) ⊢ WP c (eStart k) Q := by
  subst hj
  unfold slotX
  iintro ⟨H1, ⟨H2, H3⟩, Hk⟩
  iapply (t_start m c k Q)
  isplitl [H1]; · iexact H1
  isplitl [H2]; · iexact H2
  isplitl [H3]; · iexact H3
  iexact Hk

theorem ldJ_lv (c : Dev nD) (j : Fin 2) : lv ((c : Thread nD τ), .dma (ldJ j)) () ≤ 1 := by
  rw [show lv ((c : Thread nD τ), .dma (ldJ j)) () = 0 from if_neg (by revert j; decide)]; decide

/-- Chunk `k`'s sending buffers filled and not yet sent. -/
def readyS (c : Dev nD) (k : Fin 8) : sProp 𝕄 :=
  iprop((qbF m c k ∗ sbF m c k) ∗ dutyTok ER (xcell c (0, k)) 0 () ∗ dutyTok ER (xcell c (2, k)) 0 ()
    ∗ dutyTok ER (xcell (σ c) (1, k)) 0 () ∗ dutyTok ER (xcell (σ c) (3, k)) 0 ())

theorem u_in (hj : sj k = j) (ks : List (Fin 8)) (Q : PUnit → sProp 𝕄) :
    iprop(levAts L lv ∗ loading m c k ∗ toSend σ c k ∗ own c (owedL (σ c) ks)
        ∗ ((slotX c j ∗ xPc m c k ∗ readyS m σ c k ∗ own c (owedL (σ c) ks)) -∗ Q ⟨⟩)) ⊢ WP c (pIn k) Q := by
  subst hj
  unfold toSend readyS slotX
  iintro ⟨HL, HF, ⟨Hq, Hs, Ht⟩, HO, Hk⟩
  iapply (t_in m c k (owedL (σ c) ks) (mayWait_owed c (σ c) ks _ (ldJ_lv c (sj k))) Q)
  isplitl [HL]; · iexact HL
  isplitl [HF]; · iexact HF
  isplitl [Hq]; · iexact Hq
  isplitl [Hs]; · iexact Hs
  isplitl [HO]; · iexact HO
  iintro ⟨H1, H2, H3, H4, H5, H6⟩
  iapply Hk
  isplitl [H1 H2]; · isplitl [H1] <;> iassumption
  isplitl [H3]; · iexact H3
  isplitr [H6]
  · isplitl [H4 H5]; · isplitl [H4] <;> iassumption
    iexact Ht
  iexact H6

theorem u_send (ks : List (Fin 8)) (Q : PUnit → sProp 𝕄) :
    iprop(records m σ K ∗ readyS m σ c k ∗ landPc (σ c) k ∗ own c (owedL (σ c) (k :: ks))
        ∗ ((sentCr c k ∗ own c (owedL (σ c) ks)) -∗ Q ⟨⟩)) ⊢ WP c (pSend k (σ c)) Q := by
  unfold readyS landPc sentCr
  iintro ⟨HR, ⟨⟨Hq, Hs⟩, Ht⟩, Hl, HO, Hk⟩
  iapply (t_send m σ K c k ks Q)
  isplitl [HR]; · iexact HR
  isplitl [Hq]; · iexact Hq
  isplitl [Hs]; · iexact Hs
  isplitl [Hl]; · iexact Hl
  isplitl [HO]; · iexact HO
  isplitl [Ht]; · iexact Ht
  iintro ⟨H1, H2, H3⟩
  iapply Hk
  isplitl [H1 H2]; · isplitl [H1] <;> iassumption
  iexact H3

theorem u_mid (k' : Fin 8) (j' : Fin 2) (hj : sj k = j) (hj' : sj k' = j') (ks : List (Fin 8)) (Q : PUnit → sProp 𝕄) :
    iprop(records m σ K ∗ levAts L lv ∗ xPc m c k' ∗ slotX c j' ∗ loading m c k ∗ toSend σ c k ∗ landPc (σ c) k ∗ own c (owedL (σ c) (k :: ks))
        ∗ ((loading m c k' ∗ slotX c j ∗ xPc m c k ∗ sentCr c k ∗ own c (owedL (σ c) ks)) -∗ Q ⟨⟩))
      ⊢ WP c (eStart k') fun _ => WP c (pIn k) fun _ => WP c (pSend k (σ c)) Q := by
  iintro ⟨HR, HL, Hx, Hsl, HF, Ht, Hl, HO, Hk⟩
  iapply (u_start m c k' j' hj')
  isplitl [Hx]; · iexact Hx
  isplitl [Hsl]; · iexact Hsl
  iintro HF'
  iapply (u_in m σ c k j hj (k :: ks))
  isplitl [HL]; · iexact HL
  isplitl [HF]; · iexact HF
  isplitl [Ht]; · iexact Ht
  isplitl [HO]; · iexact HO
  iintro ⟨H1, H2, H3, HO⟩
  iapply (u_send m σ K c k ks)
  isplitl [HR]; · iexact HR
  isplitl [H3]; · iexact H3
  isplitl [Hl]; · iexact Hl
  isplitl [HO]; · iexact HO
  iintro ⟨H4, HO⟩
  iapply Hk
  isplitl [HF']; · iexact HF'
  isplitl [H1]; · iexact H1
  isplitl [H2]; · iexact H2
  isplitl [H4]; · iexact H4
  iexact HO

theorem u_last (hj : sj k = j) (ks : List (Fin 8)) (Q : PUnit → sProp 𝕄) :
    iprop(records m σ K ∗ levAts L lv ∗ loading m c k ∗ toSend σ c k ∗ landPc (σ c) k ∗ own c (owedL (σ c) (k :: ks))
        ∗ ((slotX c j ∗ xPc m c k ∗ sentCr c k ∗ own c (owedL (σ c) ks)) -∗ Q ⟨⟩))
      ⊢ WP c (pIn k) fun _ => WP c (pSend k (σ c)) Q := by
  iintro ⟨HR, HL, HF, Ht, Hl, HO, Hk⟩
  iapply (u_in m σ c k j hj (k :: ks))
  isplitl [HL]; · iexact HL
  isplitl [HF]; · iexact HF
  isplitl [Ht]; · iexact Ht
  isplitl [HO]; · iexact HO
  iintro ⟨H1, H2, H3, HO⟩
  iapply (u_send m σ K c k ks)
  isplitl [HR]; · iexact HR
  isplitl [H3]; · iexact H3
  isplitl [Hl]; · iexact Hl
  isplitl [HO]; · iexact HO
  iintro ⟨H4, HO⟩
  iapply Hk
  isplitl [H1]; · iexact H1
  isplitl [H2]; · iexact H2
  isplitl [H4]; · iexact H4
  iexact HO

/-- What is left at a receive: the chunk's rows, its scale and the two semaphores. -/
def gotR (c : Dev nD) (k : Fin 8) : sProp 𝕄 :=
  iprop((qLanded m σ c k ∗ sLanded m σ c k) ∗ semVal (xcell c (1, k)) 0 ∗ semVal (xcell c (3, k)) 0)

theorem u_recv (Q : PUnit → sProp 𝕄) :
    iprop(records m σ K ∗ toRecv c k ∗ own c 0 ∗ ((gotR m σ c k ∗ own c 0) -∗ Q ⟨⟩)) ⊢ WP c (pRecv k) Q := by
  unfold toRecv gotR
  iintro ⟨HR, ⟨Hc, Ha⟩, HO, Hk⟩
  iapply (t_recv m σ K c k Q)
  isplitl [HR]; · iexact HR
  isplitl [Hc]; · iexact Hc
  isplitl [Ha]; · iexact Ha
  isplitl [HO]; · iexact HO
  iintro ⟨H1, H2, H3, H4⟩
  iapply Hk
  isplitr [H4]
  · isplitl [H1 H2]; · isplitl [H1] <;> iassumption
    iexact H3
  iexact H4

theorem u_out (hj : sj k = j) (Q : PUnit → sProp 𝕄) :
    iprop(gotR m σ c k ∗ slotO c j ∗ oPc c k ∗ ((doneR c k ∗ storing m σ c k) -∗ Q ⟨⟩)) ⊢ WP c (pOut k) Q := by
  subst hj
  unfold gotR slotO doneR landPc
  iintro ⟨⟨⟨H1, H2⟩, Hz⟩, ⟨H3, H4⟩, H5, Hk⟩
  iapply (t_out m σ c k Q)
  isplitl [H1]; · iexact H1
  isplitl [H2]; · iexact H2
  isplitl [H3]; · iexact H3
  isplitl [H5]; · iexact H5
  isplitl [H4]; · iexact H4
  iintro ⟨H1, H2, H3⟩
  iapply Hk
  isplitr [H3]
  · isplitl [H1 H2]; · isplitl [H1] <;> iassumption
    iexact Hz
  iexact H3

theorem u_stored (hj : sj k = j) (Q : PUnit → sProp 𝕄) :
    iprop(storing m σ c k ∗ own c 0 ∗ ((slotO c j ∗ oDone m σ c k ∗ own c 0) -∗ Q ⟨⟩)) ⊢ WP c (eStored k) Q := by
  subst hj
  unfold slotO
  iintro ⟨H1, H2, Hk⟩
  iapply (t_stored m σ c k Q)
  isplitl [H1]; · iexact H1
  isplitl [H2]; · iexact H2
  iintro ⟨H1, H2, H3, H4⟩
  iapply Hk
  isplitl [H1 H2]; · isplitl [H1] <;> iassumption
  isplitl [H3] <;> iassumption

theorem u_first (hj : sj k = j) (Q : PUnit → sProp 𝕄) :
    iprop(records m σ K ∗ toRecv c k ∗ slotO c j ∗ oPc c k ∗ own c 0 ∗ ((doneR c k ∗ storing m σ c k ∗ own c 0) -∗ Q ⟨⟩))
      ⊢ WP c (pRecv k) fun _ => WP c (pOut k) Q := by
  iintro ⟨HR, Hr, Hs, Ho, HO, Hk⟩
  iapply (u_recv m σ K c k)
  isplitl [HR]; · iexact HR
  isplitl [Hr]; · iexact Hr
  isplitl [HO]; · iexact HO
  iintro ⟨Hg, HO⟩
  iapply (u_out m σ c k j hj)
  isplitl [Hg]; · iexact Hg
  isplitl [Hs]; · iexact Hs
  isplitl [Ho]; · iexact Ho
  iintro ⟨H1, H2⟩
  iapply Hk
  isplitl [H1]; · iexact H1
  isplitl [H2]; · iexact H2
  iexact HO

theorem u_tail (k2 : Fin 8) (hj : sj k = sj k2) (Q : PUnit → sProp 𝕄) :
    iprop(records m σ K ∗ toRecv c k ∗ storing m σ c k2 ∗ oPc c k ∗ own c 0
        ∗ ((doneR c k ∗ storing m σ c k ∗ oDone m σ c k2 ∗ own c 0) -∗ Q ⟨⟩))
      ⊢ WP c (pRecv k) fun _ => WP c (eStored k2) fun _ => WP c (pOut k) Q := by
  iintro ⟨HR, Hr, Hs, Ho, HO, Hk⟩
  iapply (u_recv m σ K c k)
  isplitl [HR]; · iexact HR
  isplitl [Hr]; · iexact Hr
  isplitl [HO]; · iexact HO
  iintro ⟨Hg, HO⟩
  iapply (u_stored m σ c k2 (sj k2) rfl)
  isplitl [Hs]; · iexact Hs
  isplitl [HO]; · iexact HO
  iintro ⟨Hs, Hd, HO⟩
  iapply (u_out m σ c k (sj k2) hj)
  isplitl [Hg]; · iexact Hg
  isplitl [Hs]; · iexact Hs
  isplitl [Ho]; · iexact Ho
  iintro ⟨H1, H2⟩
  iapply Hk
  isplitl [H1]; · iexact H1
  isplitl [H2]; · iexact H2
  isplitl [Hd]; · iexact Hd
  iexact HO

theorem u_sent (Q : PUnit → sProp 𝕄) :
    iprop(records m σ K ∗ sentCr c k ∗ sentAt c k ∗ own c 0 ∗ ((doneS c k ∗ own c 0) -∗ Q ⟨⟩)) ⊢ WP c (pSent k) Q := by
  unfold sentCr sentAt doneS
  iintro ⟨HR, Hc, Ha, HO, Hk⟩
  iapply (t_sent m σ K c k Q)
  isplitl [HR]; · iexact HR
  isplitl [Hc]; · iexact Hc
  isplitl [Ha]; · iexact Ha
  isplitl [HO]; · iexact HO
  iintro ⟨H1, H2, H3, H4⟩
  iapply Hk
  isplitr [H4]
  · isplitl [H1 H2]; · isplitl [H1] <;> iassumption
    iexact H3
  iexact H4

/-- The wait on the barrier: the receiving device's landing buffers. -/
theorem u_bar (O : CellTallies nD τ sig Unit) (hO : (levAts L lv : sProp 𝕄) ⊢ MayWait (c : Thread nD τ) (.reg barS) () O) (Q : PUnit → sProp 𝕄) :
    iprop(records m σ K ∗ levAts L lv ∗ (cred (tallyAt (barCell c) () 1) ∗ atPos ER (barCell c) 0 ∅ 0) ∗ own c O
        ∗ ((lands (σ c) ∗ semVal (barCell c) 0 ∗ own c O) -∗ Q ⟨⟩)) ⊢ WP c (semWaitWord barS 1#32) Q := by
  unfold own WP
  iintro ⟨#HR, #HL, ⟨Hc, Ha⟩, ⟨%W, HO⟩, Hk⟩
  unfold semWaitWord
  simp only [Prog.lift, Prog.bind_op, Prog.bind_ret]
  iapply (Rounds.wp_wait_rest_token 𝒱₀ ER (Rd m σ) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Ha]
  · isplitr; · iapply (inv_at m σ K c none); iexact HR
    isplitl [Hc]; · iexact Hc
    isplitl [HO]; · iexact HO
    isplitr; · iapply hO; iexact HL
    iexact Ha
  iintro ⟨HO, HA, -, Hpay⟩
  ihave Hp := (Entails.of_eq (rest_bar m σ c)) $$ Hpay
  imod (Rounds.cell_close ER (Rd m σ) (Set.mem_univ (K (c, none))) (fun h => h) (R := 0 + 1) (duties_later m σ (barCell c))) $$ [HA] with Hz
  · isplitr; · iapply (inv_at m σ K c none); iexact HR
    iexact HA
  rw [wp_ret]; imodintro
  iapply Hk
  isplitl [Hp]; · iexact Hp
  isplitl [Hz]; · iexact Hz
  iexists _; iexact HO

end Steps

/-! ## All the chunks -/

omit [FloatOps F] in
theorem bigSep8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Every chunk's piece. -/
abbrev all8 (Φ : Fin 8 → sProp 𝕄) : sProp 𝕄 := bigSep Finset.univ Φ

/-- The two slots of each kind, and the eight pieces of the result, the arriving and the departing copies, at the start. -/
def restIn (c : Dev nD) : sProp 𝕄 :=
  iprop(all8 (xPc m c) ∗ (slotX c 0 ∗ slotX c 1) ∗ all8 (toSend σ c) ∗ all8 (oPc c) ∗ (slotO c 0 ∗ slotO c 1) ∗ all8 (toRecv c) ∗ all8 (sentAt c)
    ∗ (cred (tallyAt (barCell c) () 1) ∗ atPos ER (barCell c) 0 ∅ 0))
/-- and at the end. -/
def restOut (c : Dev nD) : sProp 𝕄 :=
  iprop(all8 (xPc m c) ∗ (slotX c 0 ∗ slotX c 1) ∗ all8 (doneS c) ∗ all8 (oDone m σ c) ∗ (slotO c 0 ∗ slotO c 1) ∗ all8 (doneR c)
    ∗ semVal (barCell c) 0)

set_option maxHeartbeats 2000000 in
theorem t_rest (K : Dev nD × CI → ℕ) (c : Dev nD) (Q : PUnit → sProp 𝕄) :
    iprop(records m σ K ∗ levAts L lv ∗ restIn m σ c ∗ own c (owedL (σ c) allK) ∗ ((restOut m σ c ∗ own c 0) -∗ Q ⟨⟩)) ⊢ WP c (pRest (σ c)) Q := by
  unfold pRest restIn restOut all8
  simp only [wp_bind, bigSep8]
  iintro ⟨#HR, #HL, ⟨⟨X0, X1, X2, X3, X4, X5, X6, X7⟩, ⟨A0, A1⟩, ⟨T0, T1, T2, T3, T4, T5, T6, T7⟩, ⟨P0, P1, P2, P3, P4, P5, P6, P7⟩, ⟨B0, B1⟩, ⟨R0, R1, R2, R3, R4, R5, R6, R7⟩, ⟨S0, S1, S2, S3, S4, S5, S6, S7⟩, HB⟩, HO, Hk⟩
  iapply (u_start m c 0 0 rfl)
  isplitl [X0]; · iexact X0
  isplitl [A0]; · iexact A0
  iintro F0
  iapply (u_start m c 1 1 rfl)
  isplitl [X1]; · iexact X1
  isplitl [A1]; · iexact A1
  iintro F1
  iapply (u_in m σ c 0 0 rfl allK)
  isplitr; · iexact HL
  isplitl [F0]; · iexact F0
  isplitl [T0]; · iexact T0
  isplitl [HO]; · iexact HO
  iintro ⟨A0, X0, Y, HO⟩
  iapply (u_bar m σ K c (owedL (σ c) allK) (mayWait_owed c (σ c) allK _ (le_refl 1)))
  isplitr; · iexact HR
  isplitr; · iexact HL
  isplitl [HB]; · iexact HB
  isplitl [HO]; · iexact HO
  iintro ⟨HLa, Hz, HO⟩
  unfold lands
  ihave HLa := (Entails.of_eq (bigSep8 (fun k => iprop(qrPc (σ c) k ∗ srPc (σ c) k)))) $$ HLa
  icases HLa with ⟨V0, V1, V2, V3, V4, V5, V6, V7⟩
  iapply (u_send m σ K c 0 [1, 2, 3, 4, 5, 6, 7])
  isplitr; · iexact HR
  isplitl [Y]; · iexact Y
  isplitl [V0]; · unfold landPc; iexact V0
  isplitl [HO]; · iexact HO
  iintro ⟨C0, HO⟩
  iapply (u_mid m σ K c 1 1 2 0 rfl rfl [2, 3, 4, 5, 6, 7])
  isplitr; · iexact HR
  isplitr; · iexact HL
  isplitl [X2]; · iexact X2
  isplitl [A0]; · iexact A0
  isplitl [F1]; · iexact F1
  isplitl [T1]; · iexact T1
  isplitl [V1]; · unfold landPc; iexact V1
  isplitl [HO]; · iexact HO
  iintro ⟨F2, A1, X1, C1, HO⟩
  iapply (u_mid m σ K c 2 0 3 1 rfl rfl [3, 4, 5, 6, 7])
  isplitr; · iexact HR
  isplitr; · iexact HL
  isplitl [X3]; · iexact X3
  isplitl [A1]; · iexact A1
  isplitl [F2]; · iexact F2
  isplitl [T2]; · iexact T2
  isplitl [V2]; · unfold landPc; iexact V2
  isplitl [HO]; · iexact HO
  iintro ⟨F3, A0, X2, C2, HO⟩
  iapply (u_mid m σ K c 3 1 4 0 rfl rfl [4, 5, 6, 7])
  isplitr; · iexact HR
  isplitr; · iexact HL
  isplitl [X4]; · iexact X4
  isplitl [A0]; · iexact A0
  isplitl [F3]; · iexact F3
  isplitl [T3]; · iexact T3
  isplitl [V3]; · unfold landPc; iexact V3
  isplitl [HO]; · iexact HO
  iintro ⟨F4, A1, X3, C3, HO⟩
  iapply (u_mid m σ K c 4 0 5 1 rfl rfl [5, 6, 7])
  isplitr; · iexact HR
  isplitr; · iexact HL
  isplitl [X5]; · iexact X5
  isplitl [A1]; · iexact A1
  isplitl [F4]; · iexact F4
  isplitl [T4]; · iexact T4
  isplitl [V4]; · unfold landPc; iexact V4
  isplitl [HO]; · iexact HO
  iintro ⟨F5, A0, X4, C4, HO⟩
  iapply (u_mid m σ K c 5 1 6 0 rfl rfl [6, 7])
  isplitr; · iexact HR
  isplitr; · iexact HL
  isplitl [X6]; · iexact X6
  isplitl [A0]; · iexact A0
  isplitl [F5]; · iexact F5
  isplitl [T5]; · iexact T5
  isplitl [V5]; · unfold landPc; iexact V5
  isplitl [HO]; · iexact HO
  iintro ⟨F6, A1, X5, C5, HO⟩
  iapply (u_mid m σ K c 6 0 7 1 rfl rfl [7])
  isplitr; · iexact HR
  isplitr; · iexact HL
  isplitl [X7]; · iexact X7
  isplitl [A1]; · iexact A1
  isplitl [F6]; · iexact F6
  isplitl [T6]; · iexact T6
  isplitl [V6]; · unfold landPc; iexact V6
  isplitl [HO]; · iexact HO
  iintro ⟨F7, A0, X6, C6, HO⟩
  iapply (u_last m σ K c 7 1 rfl [])
  isplitr; · iexact HR
  isplitr; · iexact HL
  isplitl [F7]; · iexact F7
  isplitl [T7]; · iexact T7
  isplitl [V7]; · unfold landPc; iexact V7
  isplitl [HO]; · iexact HO
  iintro ⟨A1, X7, C7, HO⟩
  unfold owedL
  iapply (u_first m σ K c 0 0 rfl)
  isplitr; · iexact HR
  isplitl [R0]; · iexact R0
  isplitl [B0]; · iexact B0
  isplitl [P0]; · iexact P0
  isplitl [HO]; · iexact HO
  iintro ⟨R0, G0, HO⟩
  iapply (u_first m σ K c 1 1 rfl)
  isplitr; · iexact HR
  isplitl [R1]; · iexact R1
  isplitl [B1]; · iexact B1
  isplitl [P1]; · iexact P1
  isplitl [HO]; · iexact HO
  iintro ⟨R1, G1, HO⟩
  iapply (u_tail m σ K c 2 0 rfl)
  isplitr; · iexact HR
  isplitl [R2]; · iexact R2
  isplitl [G0]; · iexact G0
  isplitl [P2]; · iexact P2
  isplitl [HO]; · iexact HO
  iintro ⟨R2, G2, P0, HO⟩
  iapply (u_tail m σ K c 3 1 rfl)
  isplitr; · iexact HR
  isplitl [R3]; · iexact R3
  isplitl [G1]; · iexact G1
  isplitl [P3]; · iexact P3
  isplitl [HO]; · iexact HO
  iintro ⟨R3, G3, P1, HO⟩
  iapply (u_tail m σ K c 4 2 rfl)
  isplitr; · iexact HR
  isplitl [R4]; · iexact R4
  isplitl [G2]; · iexact G2
  isplitl [P4]; · iexact P4
  isplitl [HO]; · iexact HO
  iintro ⟨R4, G4, P2, HO⟩
  iapply (u_tail m σ K c 5 3 rfl)
  isplitr; · iexact HR
  isplitl [R5]; · iexact R5
  isplitl [G3]; · iexact G3
  isplitl [P5]; · iexact P5
  isplitl [HO]; · iexact HO
  iintro ⟨R5, G5, P3, HO⟩
  iapply (u_tail m σ K c 6 4 rfl)
  isplitr; · iexact HR
  isplitl [R6]; · iexact R6
  isplitl [G4]; · iexact G4
  isplitl [P6]; · iexact P6
  isplitl [HO]; · iexact HO
  iintro ⟨R6, G6, P4, HO⟩
  iapply (u_tail m σ K c 7 5 rfl)
  isplitr; · iexact HR
  isplitl [R7]; · iexact R7
  isplitl [G5]; · iexact G5
  isplitl [P7]; · iexact P7
  isplitl [HO]; · iexact HO
  iintro ⟨R7, G7, P5, HO⟩
  iapply (u_stored m σ c 6 0 rfl)
  isplitl [G6]; · iexact G6
  isplitl [HO]; · iexact HO
  iintro ⟨B0, P6, HO⟩
  iapply (u_stored m σ c 7 1 rfl)
  isplitl [G7]; · iexact G7
  isplitl [HO]; · iexact HO
  iintro ⟨B1, P7, HO⟩
  iapply (u_sent m σ K c 0)
  isplitr; · iexact HR
  isplitl [C0]; · iexact C0
  isplitl [S0]; · iexact S0
  isplitl [HO]; · iexact HO
  iintro ⟨S0, HO⟩
  iapply (u_sent m σ K c 1)
  isplitr; · iexact HR
  isplitl [C1]; · iexact C1
  isplitl [S1]; · iexact S1
  isplitl [HO]; · iexact HO
  iintro ⟨S1, HO⟩
  iapply (u_sent m σ K c 2)
  isplitr; · iexact HR
  isplitl [C2]; · iexact C2
  isplitl [S2]; · iexact S2
  isplitl [HO]; · iexact HO
  iintro ⟨S2, HO⟩
  iapply (u_sent m σ K c 3)
  isplitr; · iexact HR
  isplitl [C3]; · iexact C3
  isplitl [S3]; · iexact S3
  isplitl [HO]; · iexact HO
  iintro ⟨S3, HO⟩
  iapply (u_sent m σ K c 4)
  isplitr; · iexact HR
  isplitl [C4]; · iexact C4
  isplitl [S4]; · iexact S4
  isplitl [HO]; · iexact HO
  iintro ⟨S4, HO⟩
  iapply (u_sent m σ K c 5)
  isplitr; · iexact HR
  isplitl [C5]; · iexact C5
  isplitl [S5]; · iexact S5
  isplitl [HO]; · iexact HO
  iintro ⟨S5, HO⟩
  iapply (u_sent m σ K c 6)
  isplitr; · iexact HR
  isplitl [C6]; · iexact C6
  isplitl [S6]; · iexact S6
  isplitl [HO]; · iexact HO
  iintro ⟨S6, HO⟩
  iapply (u_sent m σ K c 7)
  isplitr; · iexact HR
  isplitl [C7]; · iexact C7
  isplitl [S7]; · iexact S7
  isplitl [HO]; · iexact HO
  iintro ⟨S7, HO⟩
  iapply Hk
  isplitr [HO]
  · isplitl [X0 X1 X2 X3 X4 X5 X6 X7]
    · isplitl [X0]; · iexact X0
      isplitl [X1]; · iexact X1
      isplitl [X2]; · iexact X2
      isplitl [X3]; · iexact X3
      isplitl [X4]; · iexact X4
      isplitl [X5]; · iexact X5
      isplitl [X6]; · iexact X6
      iexact X7
    isplitl [A0 A1]; · isplitl [A0] <;> iassumption
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [P0 P1 P2 P3 P4 P5 P6 P7]
    · isplitl [P0]; · iexact P0
      isplitl [P1]; · iexact P1
      isplitl [P2]; · iexact P2
      isplitl [P3]; · iexact P3
      isplitl [P4]; · iexact P4
      isplitl [P5]; · iexact P5
      isplitl [P6]; · iexact P6
      iexact P7
    isplitl [B0 B1]; · isplitl [B0] <;> iassumption
    isplitl [R0 R1 R2 R3 R4 R5 R6 R7]
    · isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
    iexact Hz
  iexact HO

end Cert.PermProof

end
-- ==== Proof.Pieces.lean ====
/-
# The buffers and their pieces

Each buffer is cut along its chunks (the two staging buffers along their slots) at the start, and put back together at
the end.
-/
module

public import proofs.«01_k».proof.Proof.Body

@[expose] public section

noncomputable section

namespace Cert.PermProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (σ : Equiv.Perm (Dev nD))

omit [FloatOps F] in
theorem bigSep_le {I : Type} [Fintype I] {Φ Ψ : I → sProp 𝕄} (h : ∀ i, Φ i ⊢ Ψ i) : bigSep Finset.univ Φ ⊢ bigSep Finset.univ Ψ :=
  bigSep_mono fun i _ => h i

/-! ## A buffer cut along a partition -/

section Cut
variable {n : ℕ} {ℓ : Loc nD τ sig} (R : Fin n → Finset (Idx ℓ))

omit [FloatOps F] in
theorem cut_same (hd : ∀ t t', t ≠ t' → Disjoint (R t) (R t')) (hc : Finset.univ.biUnion R = Finset.univ) (f : Buf (Elt F) ℓ) :
    (ℓ ↦{fullShare} f : sProp 𝕄) = bigSep Finset.univ fun t => ℓ ↦[R t]{fullShare} f := by
  rw [← pointsTo_biUnion Finset.univ R (fun t _ t' _ h => hd t t' h), hc]

omit [FloatOps F] in
theorem cut_some (hd : ∀ t t', t ≠ t' → Disjoint (R t) (R t')) (hc : Finset.univ.biUnion R = Finset.univ) :
    (iprop(∃ f : Buf (Elt F) ℓ, ℓ ↦{fullShare} f) : sProp 𝕄) ⊢ bigSep Finset.univ fun t => iprop(∃ f : Buf (Elt F) ℓ, ℓ ↦[R t]{fullShare} f) := by
  have h (f : Buf (Elt F) ℓ) : (bigSep Finset.univ fun t => (ℓ ↦[R t]{fullShare} f : sProp 𝕄))
      ⊢ bigSep Finset.univ fun t => iprop(∃ f : Buf (Elt F) ℓ, ℓ ↦[R t]{fullShare} f) :=
    bigSep_le fun t => (by iintro H; iexists f; iexact H)
  iintro ⟨%f, H⟩
  ihave H' := (Entails.of_eq (cut_same R hd hc f)) $$ H
  iapply (h f)
  iexact H'

/-- Put together again, with what is known of each part. -/
theorem join_fact (hd : ∀ t t', t ≠ t' → Disjoint (R t) (R t')) (hc : Finset.univ.biUnion R = Finset.univ) (P : Fin n → Buf (Elt F) ℓ → Prop)
    (hP : ∀ t f g, (∀ i ∈ R t, g i = f i) → P t f → P t g) :
    (bigSep Finset.univ fun t => iprop(∃ f : Buf (Elt F) ℓ, ⌜P t f⌝ ∗ ℓ ↦[R t]{fullShare} f))
      ⊢ (iprop(∃ g : Buf (Elt F) ℓ, ⌜∀ t, P t g⌝ ∗ ℓ ↦{fullShare} g) : sProp 𝕄) := by
  have f₀ : Buf (Elt F) ℓ := fun _ => Classical.choice inferInstance
  haveI : Nonempty (Buf (Elt F) ℓ) := ⟨f₀⟩
  iintro H
  ihave H' := (BI.bigSep_exists_pi Finset.univ (fun (t : Fin n) (f : Buf (Elt F) ℓ) => (iprop(⌜P t f⌝ ∗ ℓ ↦[R t]{fullShare} f) : sProp 𝕄))) $$ H
  icases H' with ⟨%fs, H⟩
  ihave H' := (BI.bigSep_pure_sep Finset.univ (fun t : Fin n => P t (fs t)) (fun t => (ℓ ↦[R t]{fullShare} fs t : sProp 𝕄))) $$ H
  icases H' with ⟨%hp, H⟩
  ihave H' := (pointsTo_biUnion_join Finset.univ R fs f₀ (fun t _ t' _ h => hd t t' h)) $$ H
  icases H' with ⟨%g, %hg, H⟩
  rw [hc]
  iexists g
  isplitr
  · ipureintro; exact fun t => hP t _ _ (hg t (Finset.mem_univ t)) (hp t (Finset.mem_univ t))
  iexact H

theorem join_some (hd : ∀ t t', t ≠ t' → Disjoint (R t) (R t')) (hc : Finset.univ.biUnion R = Finset.univ) :
    (bigSep Finset.univ fun t => iprop(∃ f : Buf (Elt F) ℓ, ℓ ↦[R t]{fullShare} f))
      ⊢ (iprop(∃ g : Buf (Elt F) ℓ, ℓ ↦{fullShare} g) : sProp 𝕄) := by
  have h : (bigSep Finset.univ fun t => (iprop(∃ f : Buf (Elt F) ℓ, ℓ ↦[R t]{fullShare} f) : sProp 𝕄))
      ⊢ bigSep Finset.univ fun t => iprop(∃ f : Buf (Elt F) ℓ, ⌜True⌝ ∗ ℓ ↦[R t]{fullShare} f) :=
    bigSep_le fun t => (by
      iintro ⟨%f, H⟩; iexists f; isplitr; · ipureintro; trivial
      iexact H)
  have h2 := join_fact (F := F) R hd hc (fun _ _ => True) fun _ _ _ _ _ => trivial
  iintro H
  ihave H := h $$ H
  ihave H := h2 $$ H
  icases H with ⟨%g, -, H⟩
  iexists g; iexact H

end Cut

/-! ## The partitions -/

theorem apart (k k' : Fin 8) (h : k ≠ k') : lo k + sz k ≤ lo k' ∨ lo k' + sz k' ≤ lo k := by revert k k'; decide
theorem row_in (r : ℕ) (h : r < 2048) : ∃ k : Fin 8, lo k ≤ r ∧ r < lo k + sz k := by
  by_cases h1 : r < 64; · exact ⟨0, Nat.zero_le _, h1⟩
  by_cases h2 : r < 192; · exact ⟨1, Nat.le_of_not_lt h1, h2⟩
  by_cases h3 : r < 448; · exact ⟨2, Nat.le_of_not_lt h2, h3⟩
  by_cases h4 : r < 832; · exact ⟨3, Nat.le_of_not_lt h3, h4⟩
  by_cases h5 : r < 1280; · exact ⟨4, Nat.le_of_not_lt h4, h5⟩
  by_cases h6 : r < 1664; · exact ⟨5, Nat.le_of_not_lt h5, h6⟩
  by_cases h7 : r < 1920; · exact ⟨6, Nat.le_of_not_lt h6, h7⟩
  exact ⟨7, Nat.le_of_not_lt h7, h⟩

theorem rQ_disj (k k' : Fin 8) (h : k ≠ k') : Disjoint (rQ k).set (rQ k').set := Rect.unit_disjoint 0 (apart k k' h)
theorem rX_disj (k k' : Fin 8) (h : k ≠ k') : Disjoint (rX k).set (rX k').set := Rect.unit_disjoint 1 (apart k k' h)
theorem rS_disj (k k' : Fin 8) (h : k ≠ k') : Disjoint (rS k).set (rS k').set :=
  Rect.unit_disjoint 0 (by
    have : k.val ≠ k'.val := fun e => h (Fin.ext e)
    show k.val + 1 ≤ k'.val ∨ k'.val + 1 ≤ k.val
    omega)
theorem rJ_disj (j j' : Fin 2) (h : j ≠ j') : Disjoint (rJ j).set (rJ j').set :=
  Rect.unit_disjoint 0 (by
    have : j.val ≠ j'.val := fun e => h (Fin.ext e)
    show j.val + 1 ≤ j'.val ∨ j'.val + 1 ≤ j.val
    omega)

theorem rQ_cover : Finset.univ.biUnion (fun k => (rQ k).set) = Finset.univ := by
  ext i
  simp only [Finset.mem_biUnion, Finset.mem_univ, true_and, iff_true]
  obtain ⟨k, h⟩ := row_in (i 0).val (i 0).isLt
  refine ⟨k, Rect.mem_set_unit.mpr fun a => ?_⟩
  fin_cases a
  · exact h
  · exact ⟨Nat.zero_le _, (Nat.zero_add 1024).symm ▸ (i 1).isLt⟩
theorem rX_cover : Finset.univ.biUnion (fun k => (rX k).set) = Finset.univ := by
  ext i
  simp only [Finset.mem_biUnion, Finset.mem_univ, true_and, iff_true]
  obtain ⟨k, h⟩ := row_in (i 1).val (i 1).isLt
  refine ⟨k, Rect.mem_set_unit.mpr fun a => ?_⟩
  fin_cases a
  · exact ⟨Nat.zero_le _, (Nat.zero_add 1).symm ▸ (i 0).isLt⟩
  · exact h
  · exact ⟨Nat.zero_le _, (Nat.zero_add 1024).symm ▸ (i 2).isLt⟩
theorem rS_cover : Finset.univ.biUnion (fun k => (rS k).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, (Nat.zero_add 8).symm ▸ (i 1).isLt⟩
  · exact ⟨Nat.zero_le _, (Nat.zero_add 128).symm ▸ (i 2).isLt⟩
theorem rJ_cover : Finset.univ.biUnion (fun j => (rJ j).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, (Nat.zero_add 448).symm ▸ (i 1).isLt⟩
  · exact ⟨Nat.zero_le _, (Nat.zero_add 1024).symm ▸ (i 2).isLt⟩

/-! ## The buffers -/

section Bufs
variable (c : Dev nD)

omit [FloatOps F] in
theorem bigSep2 (Φ : Fin 2 → sProp 𝕄) : bigSep Finset.univ Φ = iprop(Φ 0 ∗ Φ 1) :=
  bigSep_univ_eq_bigSepL [0, 1] (by decide) (by decide) Φ

/-- The buffer `b` at some contents. -/
abbrev someB (b : Ref sig .tc) : sProp 𝕄 := iprop(∃ f : Buf (Elt F) ((c : Thread nD τ).loc b), ((c : Thread nD τ).loc b) ↦{fullShare} f)

theorem x_pieces : (((c : Thread nD τ).loc main_arg0) ↦{fullShare} (m ((c : Thread nD τ).loc main_arg0)) : sProp 𝕄) = all8 (xPc m c) := by
  rw [cut_same (ℓ := (c : Thread nD τ).loc main_arg0) (fun k => (rX k).set) rX_disj rX_cover]
  exact bigSep_congr fun k _ => by unfold xPc; rw [set_xP]

theorem qb_pieces : someB (F := F) c cc0_scratch1 ⊢ all8 (qbPc c) := by
  refine (cut_some (ℓ := (c : Thread nD τ).loc cc0_scratch1) (fun k => (rQ k).set) rQ_disj rQ_cover).trans (bigSep_le fun k => Entails.of_eq ?_)
  unfold qbPc; rw [set_qbP]
theorem qb_whole : all8 (qbPc (F := F) c) ⊢ someB c cc0_scratch1 := by
  refine (bigSep_le fun k => Entails.of_eq ?_).trans (join_some (ℓ := (c : Thread nD τ).loc cc0_scratch1) (fun k => (rQ k).set) rQ_disj rQ_cover)
  unfold qbPc; rw [set_qbP]
theorem sb_pieces : someB (F := F) c cc0_scratch2 ⊢ all8 (sbPc c) := by
  refine (cut_some (ℓ := (c : Thread nD τ).loc cc0_scratch2) (fun k => (rS k).set) rS_disj rS_cover).trans (bigSep_le fun k => Entails.of_eq ?_)
  unfold sbPc; rw [set_sbP]
theorem sb_whole : all8 (sbPc (F := F) c) ⊢ someB c cc0_scratch2 := by
  refine (bigSep_le fun k => Entails.of_eq ?_).trans (join_some (ℓ := (c : Thread nD τ).loc cc0_scratch2) (fun k => (rS k).set) rS_disj rS_cover)
  unfold sbPc; rw [set_sbP]
theorem qr_pieces : someB (F := F) c cc0_scratch3 ⊢ all8 (qrPc c) := by
  refine (cut_some (ℓ := (c : Thread nD τ).loc cc0_scratch3) (fun k => (rQ k).set) rQ_disj rQ_cover).trans (bigSep_le fun k => Entails.of_eq ?_)
  unfold qrPc; rw [set_qrP]
theorem qr_whole : all8 (qrPc (F := F) c) ⊢ someB c cc0_scratch3 := by
  refine (bigSep_le fun k => Entails.of_eq ?_).trans (join_some (ℓ := (c : Thread nD τ).loc cc0_scratch3) (fun k => (rQ k).set) rQ_disj rQ_cover)
  unfold qrPc; rw [set_qrP]
theorem sr_pieces : someB (F := F) c cc0_scratch4 ⊢ all8 (srPc c) := by
  refine (cut_some (ℓ := (c : Thread nD τ).loc cc0_scratch4) (fun k => (rS k).set) rS_disj rS_cover).trans (bigSep_le fun k => Entails.of_eq ?_)
  unfold srPc; rw [set_srP]
theorem sr_whole : all8 (srPc (F := F) c) ⊢ someB c cc0_scratch4 := by
  refine (bigSep_le fun k => Entails.of_eq ?_).trans (join_some (ℓ := (c : Thread nD τ).loc cc0_scratch4) (fun k => (rS k).set) rS_disj rS_cover)
  unfold srPc; rw [set_srP]
theorem o_pieces : someB (F := F) c main_v1 ⊢ all8 (oPc c) := by
  refine (cut_some (ℓ := (c : Thread nD τ).loc main_v1) (fun k => (rX k).set) rX_disj rX_cover).trans (bigSep_le fun k => Entails.of_eq ?_)
  unfold oPc; rw [set_oP]
theorem xv_pieces : someB (F := F) c cc0_scratch0 ⊢ iprop(xvSlot c 0 ∗ xvSlot c 1) := by
  refine (cut_some (ℓ := (c : Thread nD τ).loc cc0_scratch0) (fun j => (rJ j).set) rJ_disj rJ_cover).trans (Entails.of_eq ?_)
  rw [bigSep2]; rfl
theorem xv_whole : iprop(xvSlot (F := F) c 0 ∗ xvSlot c 1) ⊢ someB c cc0_scratch0 := by
  refine (Entails.of_eq ?_).trans (join_some (ℓ := (c : Thread nD τ).loc cc0_scratch0) (fun j => (rJ j).set) rJ_disj rJ_cover)
  rw [bigSep2]; rfl
theorem ov_pieces : someB (F := F) c cc0_scratch5 ⊢ iprop(ovSlot c 0 ∗ ovSlot c 1) := by
  refine (cut_some (ℓ := (c : Thread nD τ).loc cc0_scratch5) (fun j => (rJ j).set) rJ_disj rJ_cover).trans (Entails.of_eq ?_)
  rw [bigSep2]; rfl
theorem ov_whole : iprop(ovSlot (F := F) c 0 ∗ ovSlot c 1) ⊢ someB c cc0_scratch5 := by
  refine (Entails.of_eq ?_).trans (join_some (ℓ := (c : Thread nD τ).loc cc0_scratch5) (fun j => (rJ j).set) rJ_disj rJ_cover)
  rw [bigSep2]; rfl

/-- What the result array holds at the end, chunk by chunk. -/
def Good (g : Buf (Elt F) ((c : Thread nD τ).loc main_v1)) : Prop := ∀ k, (oB k).view.read (Elt F) g = outK m σ c k

theorem o_whole : all8 (oDone m σ c)
    ⊢ iprop(∃ g : Buf (Elt F) ((c : Thread nD τ).loc main_v1), ⌜Good m σ c g⌝ ∗ ((c : Thread nD τ).loc main_v1) ↦{fullShare} g) := by
  refine (bigSep_le fun k => Entails.of_eq ?_).trans
    (join_fact (ℓ := (c : Thread nD τ).loc main_v1) (fun k => (rX k).set) rX_disj rX_cover (fun k (f : Buf (Elt F) ((c : Thread nD τ).loc main_v1)) => (oB k).view.read (Elt F) f = outK m σ c k) ?_)
  · unfold oDone owns; rw [set_oB]
  · intro k f g h hf
    rw [← hf]
    exact View.read_congr fun i hi => h i (by rw [← set_oB k]; exact hi)

end Bufs

end Cert.PermProof

end
-- ==== Proof.Run.lean ====
/-
# The run

What the region holds at its one point, the body as the region wants it, and the launch: the semaphores shared out as
cells, the duties' tokens given to the devices that pay them, the launch credit counted.
-/
module

public import proofs.«01_k».proof.Proof.Pieces
public import proofs.«01_k».proof.Proof.Gen.KernelIdeal.Points
public import Idealize.ShloMosaic.Lib.Pipeline.CollectiveSegs

@[expose] public section

noncomputable section

namespace Cert.PermProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Dev nD))

/-! ## The region's data -/

/-- The table as staged. -/
def tab (c : Dev nD) : (cc0_stg0_0 : Ref sig .tc).ty.Contents (Elt F) :=
  (win0_0.blk (0 : Fin 1)).view.read (Elt F) (m ((c : Thread nD τ).loc main_arg1))

theorem tab_eq (c : Dev nD) : tab m c = (m ((c : Thread nD τ).loc main_arg1) : S8.Idx → BitVec 32) := by
  funext i
  refine congrArg (m ((c : Thread nD τ).loc main_arg1)) (funext fun a => Fin.ext ?_)
  fin_cases a
  show 0 * 8 + 1 * (i 0).val = (i 0).val
  omega

/-- Device `c`'s idle slots' semaphores. -/
def slotSems (c : Dev nD) : sProp 𝕄 :=
  iprop((semVal ((c : Thread nD τ), .dma (ldJ 0)) 0 ∗ semVal ((c : Thread nD τ), .dma (ldJ 1)) 0)
    ∗ (semVal ((c : Thread nD τ), .dma (stJ 0)) 0 ∗ semVal ((c : Thread nD τ), .dma (stJ 1)) 0))

/-- The tokens of the duties device `c` pays, chunk by chunk. -/
def sendToks (c : Dev nD) (k : Fin 8) : sProp 𝕄 :=
  iprop(dutyTok ER (xcell c (0, k)) 0 () ∗ dutyTok ER (xcell c (2, k)) 0 () ∗ dutyTok ER (xcell (σ c) (1, k)) 0 () ∗ dutyTok ER (xcell (σ c) (3, k)) 0 ())

/-- What stays with device `c` of the shared cells: its tokens, its positions, its slots' semaphores. -/
def linear (c : Dev nD) : sProp 𝕄 :=
  iprop(dutyTok ER (barCell (σ.symm c)) 0 () ∗ all8 (sendToks σ c)
    ∗ (atPos ER (barCell c) 0 ∅ 0 ∗ all8 fun k => iprop((atPos ER (xcell c (0, k)) 0 ∅ 0 ∗ atPos ER (xcell c (2, k)) 0 ∅ 0)
        ∗ (atPos ER (xcell c (1, k)) 0 ∅ 0 ∗ atPos ER (xcell c (3, k)) 0 ∅ 0)))
    ∗ slotSems c)

/-- and of the launch credit. -/
def credit (c : Dev nD) : sProp 𝕄 :=
  iprop(cred (tallyAt (barCell c) () 1) ∗ all8 fun k => iprop(cred (tallyAt (xcell c (1, k)) () (NQ k)) ∗ cred (tallyAt (xcell c (3, k)) () (NS k))))

def start (c : Dev nD) : sProp 𝕄 :=
  iprop((∃ K, records m σ K ∗ linear σ c) ∗ levAts L lv ∗ credit c ∗ all8 (xPc m c) ∗ all8 (oPc c))

def Φ₀ (c : Dev nD) : sProp 𝕄 :=
  iprop(∃ K, records m σ K ∗ levAts L lv ∗ dutyTok ER (barCell (σ.symm c)) 0 () ∗ lands c ∗ restIn m σ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tab m c
  Φ t := match t with
    | ⟨0, _⟩ => Φ₀ m σ c
    | ⟨_ + 1, _⟩ => restOut m σ c
  q _ := fullShare
  owed t := match t with
    | ⟨0, _⟩ => O₀ σ c
    | ⟨_ + 1, _⟩ => 0

/-! ## The body -/

omit [FloatOps F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pre₀ (c : Dev nD) : sProp 𝕄 :=
  iprop(Φ₀ m σ c ∗ (dats m ρ σ 0 c).owesAt () t0_0.castSucc ∗ ∃ d, stg c cc0_stg0_0 ((dats m ρ σ 0 c).before (0 : Fin 1) t0_0 d))
def post₀ (c : Dev nD) : sProp 𝕄 :=
  iprop(restOut m σ c ∗ (dats m ρ σ 0 c).owesAt () t0_0.succ ∗ stg c cc0_stg0_0 (tab m c))

theorem sound_body (hT : ∀ c, TableOK σ (tab m c)) (c : Dev nD) :
    pre₀ m ρ σ c ⊢ WP c (do let d ← pHead; pRest d) (fun _ => post₀ m ρ σ c) := by
  unfold pre₀ Φ₀ WP
  iintro ⟨⟨%K, #HR, #HL, HT, Hla, Hr⟩, Ho, ⟨%d0, %g0, %hg0, Ht⟩⟩
  have hx : g0 = tab m c := by rw [hg0]; unfold Dat.before; rw [if_pos (fetch0_0 t0_0)]; rfl
  subst hx
  unfold Dat.owesAt Pipeline.owesWithin
  icases Ho with ⟨%W, %hW, HO⟩
  rw [show (dats m ρ σ 0 c).owed t0_0.castSucc = O₀ σ c from rfl]
  rw [wp_bind]
  iapply (t_head m σ K c (tab m c) (hT c))
  isplitr; · iexact HR
  isplitl [Ht]; · unfold tabPc; iexact Ht
  isplitl [Hla]; · iexact Hla
  isplitl [HT]; · iexact HT
  isplitl [HO]; · unfold own; iexists W; iexact HO
  iintro ⟨Ht, HO⟩
  iapply (t_rest m σ K c)
  isplitr; · iexact HR
  isplitr; · iexact HL
  isplitl [Hr]; · iexact Hr
  isplitl [HO]; · iexact HO
  unfold own tabPc
  iintro ⟨Hr, ⟨%W', HO⟩⟩
  unfold post₀ Dat.owesAt Pipeline.owesWithin
  isplitl [Hr]; · iexact Hr
  isplitl [HO]
  · rw [show (dats m ρ σ 0 c).owed t0_0.succ = 0 from rfl]
    iexists W'
    isplitr; · ipureintro; exact fun _ _ => Or.inl trivial
    iexact HO
  iexists (tab m c)
  isplitr; · ipureintro; rfl
  iexact Ht

set_option maxRecDepth 65536 in
theorem body_obligation (hT : ∀ c, TableOK σ (tab m c)) (c : Dev nD) :
    BodyObligation (dats (F := F) m ρ σ 0 c) (defs₀ (F := F)) 𝒱₀ () Set.univ := fun t => by
  rw [fin_N0 t]
  rw [bigSep_W0, bigSep_W0]
  simp only [owns_buf]
  show pre₀ m ρ σ c ⊢ WP c (cc0_body (F := F) piM (Memref.isWhole_whole _) xM (Memref.isWhole_whole _) oM (Memref.isWhole_whole _) xvM (Memref.isWhole_whole _)
      qbM (Memref.isWhole_whole _) sbM (Memref.isWhole_whole _) qrM (Memref.isWhole_whole _) srM (Memref.isWhole_whole _)
      ovM (Memref.isWhole_whole _) cc0_scratch6 cc0_scratch7 cc0_scratch8 cc0_scratch9 cc0_scratch10 cc0_scratch11) (fun _ => post₀ m ρ σ c)
  rw [body_eq]
  exact sound_body m ρ σ hT c

/-! ## The cells -/

abbrev osem : Fin 36 → SemLoc sig := fun i => .dma ⟨i.val + 1, by have := i.isLt; show _ < 37; omega⟩

set_option maxRecDepth 8000 in
theorem ownSemFacts : Pipeline.OwnSemFacts cfg0.spec osem := by decide

theorem share_eq (c : Dev nD) (w : Fin cfg0.W) : (dats m ρ σ 0 c).share w = fullShare := by unfold Dat.share; split <;> rfl

/-- The semaphore of an exchange cell. -/
def csem : CI → SemLoc sig
  | none => .reg barS
  | some p => .dma (xsem p)
theorem csem_inj : Function.Injective csem := by
  rintro (_ | p) (_ | q) h
  · rfl
  · cases h
  · cases h
  · unfold csem at h
    rw [xsem_inj (SemLoc.dma.inj h)]
abbrev cellAt (q : Dev nD × CI) : GSem nD τ sig := ccell q.1 q.2
theorem cellAt_eq (c : Dev nD) (i : CI) : ccell c i = ((c : Thread nD τ), csem i) := by cases i <;> rfl
theorem cellAt_inj : Function.Injective cellAt := by
  rintro ⟨c, i⟩ ⟨c', i'⟩ h
  unfold cellAt at h
  rw [cellAt_eq, cellAt_eq] at h
  have h1 : c = c' := congrArg (fun g : GSem nD τ sig => g.1.1) h
  have h2 : i = i' := csem_inj (congrArg (fun g : GSem nD τ sig => g.2) h)
  rw [h1, h2]

def exCells : Finset (GSem nD τ sig) := Finset.univ.map ⟨cellAt, cellAt_inj⟩
abbrev tokAt (q : Dev nD × CI) : GSem nD τ sig × ℕ × Unit := (cellAt q, 0, ())
theorem tokAt_inj : Function.Injective tokAt := fun q q' h => cellAt_inj (congrArg Prod.fst h)
def exToks : Finset (GSem nD τ sig × ℕ × Unit) := Finset.univ.map ⟨tokAt, tokAt_inj⟩

def u₀ : UU :=
  (Rounds.initOf (Pipeline.cells cfgs cellOf_inj) (Pipeline.launchToks cfgs cellOf_inj), (Rounds.initOf exCells exToks, 1))

/-- Over the cells of one device. -/
abbrev allC (Φ : CI → sProp 𝕄) : sProp 𝕄 := bigSep Finset.univ Φ

/-- What the launch element gives device `c`. -/
def G (c : Dev nD) : sProp 𝕄 :=
  iprop(allC (fun i => roundState ER (Rd m σ) (ccell c i) 0)
    ∗ allC (fun i => iprop(atPos ER (ccell c i) 0 ∅ 0 ∗ reached ER (ccell c i) 0)) ∗ allC (fun i => dutyTok ER (ccell c i) 0 ()))
def G' (c : Dev nD) : sProp 𝕄 := iprop(∃ K, records m σ K ∗ linear σ c)

theorem fund_cells : BI.own (ER (Rounds.initOf exCells exToks)) ⊢ (|==> bigSep Finset.univ (G m σ) : sProp 𝕄) := by
  have hX (Φ : GSem nD τ sig → sProp 𝕄) : bigSep exCells Φ = bigSep Finset.univ fun c : Dev nD => allC fun i => Φ (ccell c i) := by
    unfold exCells; rw [bigSep_map, bigSep_univ_prod]; rfl
  have hT : bigSep exToks (fun x => (dutyTok ER x.1 x.2.1 x.2.2 : sProp 𝕄)) = bigSep Finset.univ fun c : Dev nD => allC fun i => dutyTok ER (ccell c i) 0 () := by
    unfold exToks; rw [bigSep_map, bigSep_univ_prod]; rfl
  iintro HX
  imod (Rounds.fund ER (Rd m σ) exCells exToks) $$ HX with ⟨Hst, Hr, Hat, Htok⟩
  imodintro
  ihave Hst := (Entails.of_eq (hX fun g => roundState ER (Rd m σ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G allC; simp only [bigSep_sep']
  isplitl [Hst]; · iexact Hst
  isplitl [Hat Hr]
  · isplitl [Hat] <;> iassumption
  iexact Htok

/-! ## A device's cells enumerated -/

omit [FloatOps F] in
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem allC_eq (Φ : CI → sProp 𝕄) :
    allC Φ = iprop(Φ none ∗ all8 (fun k => Φ (some (0, k))) ∗ all8 (fun k => Φ (some (1, k))) ∗ all8 (fun k => Φ (some (2, k))) ∗ all8 (fun k => Φ (some (3, k)))) := by
  unfold allC all8
  rw [bigSep_univ_at _ (none : CI)]
  congr 1
  rw [show (Finset.univ.erase (none : CI)) = Finset.univ.map (Function.Embedding.some : (Fin 4 × Fin 8) ↪ CI) from by
    ext i; cases i <;> simp, bigSep_map, bigSep_univ_prod, bigSep4]
  rfl

omit [FloatOps F] in
theorem ownSems_list (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0 ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0) := by
  rw [Pipeline.ownSems0_eq_of_list c osem [0,1,2,3,4,5,6,7,8,9,10,11,12,13,14,15,16,17,18,19,20,21,22,23,24,25,26,27,28,29,30,31,32,33,34,35] (by decide) (by decide)]; rfl

omit [FloatOps F] in
theorem ownSems_eq (c : Dev nD) : (Pipeline.ownSems0 (Ix := Unit) (Name := ℕ) (U := UU) (Lvl := ℕ) (Val := Elt F) (τ := τ) osem c : sProp 𝕄)
    ⊢ iprop(slotSems c ∗ all8 (fun k => semVal (xcell c (0, k)) 0) ∗ all8 (fun k => semVal (xcell c (1, k)) 0)
        ∗ all8 (fun k => semVal (xcell c (2, k)) 0) ∗ all8 (fun k => semVal (xcell c (3, k)) 0)) := by
  rw [ownSems_list]
  unfold slotSems all8
  simp only [bigSep8]
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [H0 H1 H34 H35]
  · isplitl [H0 H1]
    · isplitl [H0]; · iexact H0
      iexact H1
    isplitl [H34]; · iexact H34
    iexact H35
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10 H11 H12 H13 H14 H15 H16 H17]
  · isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18 H19 H20 H21 H22 H23 H24 H25]
  · isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

omit [FloatOps F] in
theorem ownSems_back (c : Dev nD) :
    iprop(slotSems c ∗ all8 (fun k => semVal (xcell c (0, k)) 0) ∗ all8 (fun k => semVal (xcell c (1, k)) 0)
        ∗ all8 (fun k => semVal (xcell c (2, k)) 0) ∗ all8 (fun k => semVal (xcell c (3, k)) 0))
      ⊢ (Pipeline.ownSems0 (Ix := Unit) (Name := ℕ) (U := UU) (Lvl := ℕ) (Val := Elt F) (τ := τ) osem c : sProp 𝕄) := by
  rw [ownSems_list]
  unfold slotSems all8
  simp only [bigSep8]
  iintro ⟨⟨⟨H0, H1⟩, ⟨H34, H35⟩⟩, ⟨H2, H3, H4, H5, H6, H7, H8, H9⟩, ⟨H10, H11, H12, H13, H14, H15, H16, H17⟩, ⟨H18, H19, H20, H21, H22, H23, H24, H25⟩, ⟨H26, H27, H28, H29, H30, H31, H32, H33⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m σ c)
      ⊢ |={Set.univ}=> iprop((allC fun i => iprop(∃ κ : ℕ, cellInv ER (Rd m σ) κ (ccell c i)))
          ∗ (allC fun i => iprop(atPos ER (ccell c i) 0 ∅ 0 ∗ reached ER (ccell c i) 0)) ∗ (allC fun i => dutyTok ER (ccell c i) 0 ()) ∗ slotSems c) := by
  unfold G
  iintro ⟨Hos, Hus, Hst, Hat, Htok⟩
  ihave Hos := (ownSems_eq (F := F) c) $$ Hos
  icases Hos with ⟨Hsl, Hx⟩
  ihave Hus := (Entails.of_eq (unscoped_eq (F := F) c)) $$ Hus
  have halloc : iprop(allC (fun i => semVal (ccell c i) 0) ∗ allC fun i => roundState ER (Rd m σ) (ccell c i) 0)
      ⊢ (|={Set.univ}=> allC fun i => iprop(∃ κ : ℕ, cellInv ER (Rd m σ) κ (ccell c i)) : sProp 𝕄) := by
    unfold allC
    rw [← bigSep_sep']
    exact (bigSep_mono fun i _ => (Rounds.body_intro ER (Rd m σ) (ccell c i)).trans inv_alloc).trans (bigSep_fupd _ _)
  imod halloc $$ [Hus Hx Hst] with Hinv
  · isplitl [Hus Hx]
    · rw [allC_eq]
      isplitl [Hus]; · iexact Hus
      iexact Hx
    iexact Hst
  imodintro
  isplitl [Hinv]; · iexact Hinv
  isplitl [Hat]; · iexact Hat
  isplitl [Htok]; · iexact Htok
  iexact Hsl

/-! ## The shares regrouped -/

omit [FloatOps F] in
/-- Every duty's token at the device that pays it. -/
theorem toks_to_payers : (bigSep Finset.univ fun c : Dev nD => (allC fun i => dutyTok ER (ccell c i) 0 () : sProp 𝕄))
    ⊢ bigSep Finset.univ fun c : Dev nD => iprop(dutyTok ER (barCell (σ.symm c)) 0 () ∗ all8 (sendToks σ c)) := by
  unfold sendToks all8
  simp only [allC_eq, bigSep_sep']
  unfold all8
  rw [bigSep_univ_equiv σ.symm (fun c : Dev nD => (dutyTok ER (ccell c none) 0 () : sProp 𝕄)),
    bigSep_univ_equiv σ (fun c : Dev nD => bigSep Finset.univ fun k : Fin 8 => (dutyTok ER (ccell c (some (1, k))) 0 () : sProp 𝕄)),
    bigSep_univ_equiv σ (fun c : Dev nD => bigSep Finset.univ fun k : Fin 8 => (dutyTok ER (ccell c (some (3, k))) 0 () : sProp 𝕄))]
  iintro ⟨HB, H0, H1, H2, H3⟩
  isplitl [HB]; · iexact HB
  isplitl [H0]; · iexact H0
  isplitl [H2]; · iexact H2
  isplitl [H1]; · iexact H1
  iexact H3

omit [FloatOps F] in
theorem pos_eq (c : Dev nD) : (allC fun i => (atPos ER (ccell c i) 0 ∅ 0 : sProp 𝕄))
    ⊢ iprop(atPos ER (barCell c) 0 ∅ 0 ∗ all8 fun k => iprop((atPos ER (xcell c (0, k)) 0 ∅ 0 ∗ atPos ER (xcell c (2, k)) 0 ∅ 0)
        ∗ (atPos ER (xcell c (1, k)) 0 ∅ 0 ∗ atPos ER (xcell c (3, k)) 0 ∅ 0))) := by
  rw [allC_eq]
  unfold all8
  simp only [bigSep_sep']
  iintro ⟨HB, H0, H1, H2, H3⟩
  isplitl [HB]; · iexact HB
  isplitl [H0 H2]
  · isplitl [H0]; · iexact H0
    iexact H2
  isplitl [H1]; · iexact H1
  iexact H3

omit [FloatOps F] in
theorem with_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((allC fun i => iprop(∃ κ : ℕ, cellInv ER (Rd m σ) κ (ccell c i)))
          ∗ (allC fun i => iprop(atPos ER (ccell c i) 0 ∅ 0 ∗ reached ER (ccell c i) 0)) ∗ (allC fun i => dutyTok ER (ccell c i) 0 ()) ∗ slotSems c) : sProp 𝕄)
      ⊢ bigSep Finset.univ (G' m σ) := by
  unfold allC
  simp only [bigSep_sep']
  rw [← bigSep_univ_prod (fun q : Dev nD × CI => iprop(∃ κ : ℕ, cellInv ER (Rd m σ) κ (ccell q.1 q.2))),
    ← bigSep_univ_prod (fun q : Dev nD × CI => (reached ER (ccell q.1 q.2) 0 : sProp 𝕄))]
  iintro ⟨HI, ⟨Hat, #HR⟩, Htok, Hsl⟩
  ihave HK := (BI.bigSep_exists_pi Finset.univ (fun (q : Dev nD × CI) (κ : ℕ) => (cellInv ER (Rd m σ) κ (ccell q.1 q.2) : sProp 𝕄))) $$ HI
  icases HK with ⟨%K, #HI⟩
  ihave Htok := (toks_to_payers (F := F) σ) $$ Htok
  ihave Hat := (bigSep_le (fun c : Dev nD => pos_eq (F := F) c)) $$ Hat
  iapply (with_persistent (R := records m σ K) (Φ := linear σ) fun c => by
    unfold G'; iintro ⟨H1, H2⟩; iexists K; isplitl [H1] <;> iassumption)
  isplitr
  · unfold records; isplitl; · iexact HI
    iexact HR
  · have h : iprop((bigSep Finset.univ fun c : Dev nD => iprop(dutyTok ER (barCell (σ.symm c)) 0 () ∗ all8 (sendToks σ c)))
        ∗ (bigSep Finset.univ fun c : Dev nD => iprop(atPos ER (barCell c) 0 ∅ 0 ∗ all8 fun k => iprop((atPos ER (xcell c (0, k)) 0 ∅ 0 ∗ atPos ER (xcell c (2, k)) 0 ∅ 0)
          ∗ (atPos ER (xcell c (1, k)) 0 ∅ 0 ∗ atPos ER (xcell c (3, k)) 0 ∅ 0))))
        ∗ (bigSep Finset.univ fun c : Dev nD => (slotSems c : sProp 𝕄))) ⊢ bigSep Finset.univ (linear (F := F) σ) := by
      rw [← bigSep_sep', ← bigSep_sep']
      refine bigSep_le fun c => ?_
      unfold linear
      iintro ⟨⟨H1, H2⟩, H3, H4⟩
      isplitl [H1]; · iexact H1
      isplitl [H2]; · iexact H2
      isplitl [H3] <;> iassumption
    iapply h
    isplitl [Htok]; · iexact Htok
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m σ c) : sProp 𝕄)
    ⊢ |={Set.univ}=> bigSep Finset.univ (G' m σ) :=
  ((bigSep_le fun c => core_alloc m σ c).trans (bigSep_fupd _ _)).trans (BI.fupd_mono (regroup m σ))

/-! ## The launch credit -/

section Credit
variable (c d : Dev nD)

theorem csem_ne {c d : Dev nD} {i j : CI} (h : i ≠ j) : ccell c i ≠ ccell d j := by
  rw [cellAt_eq, cellAt_eq]
  exact fun e => h (csem_inj (congrArg (fun g : GSem nD τ sig => g.2) e))
theorem tally_ne {c d : Dev nD} {i j : CI} (h : i ≠ j) (n : ℕ) : (tallyAt (ccell d j) () n : CellTallies nD τ sig Unit) (ccell c i) () = 0 := by
  rw [tallyAt_apply, if_neg fun e => csem_ne h e.1]
theorem cell_iff (i : CI) : Iff (ccell c i = ccell d i) (c = d) := by
  rw [cellAt_eq, cellAt_eq]
  exact ⟨fun e => congrArg (fun g : GSem nD τ sig => g.1.1) e, fun e => by rw [e]⟩

/-- What the copies to device `d` owe the cells. -/
theorem owedL_bar (ks : List (Fin 8)) : owedL d ks (barCell c) () = 0 := by
  induction ks with
  | nil => rfl
  | cons k ks ih =>
    unfold owedL
    rw [Pi.add_apply, Finsupp.add_apply, Pi.add_apply, Finsupp.add_apply, ih,
      show (tallyAt (xcell d (1, k)) () (NQ k) : CellTallies nD τ sig Unit) (barCell c) () = 0 from tally_ne (i := none) (j := some (1, k)) (by simp) _,
      show (tallyAt (xcell d (3, k)) () (NS k) : CellTallies nD τ sig Unit) (barCell c) () = 0 from tally_ne (i := none) (j := some (3, k)) (by simp) _]

theorem owedL_q (k : Fin 8) (ks : List (Fin 8)) : owedL d ks (xcell c (1, k)) () = if d = c then ks.count k * NQ k else 0 := by
  induction ks with
  | nil => rw [List.count_nil, Nat.zero_mul, ite_self]; rfl
  | cons k' ks ih =>
    unfold owedL
    rw [Pi.add_apply, Finsupp.add_apply, Pi.add_apply, Finsupp.add_apply, ih,
      show (tallyAt (xcell d (3, k')) () (NS k') : CellTallies nD τ sig Unit) (xcell c (1, k)) () = 0 from tally_ne (i := some (1, k)) (j := some (3, k')) (by simp) _,
      tallyAt_apply, Nat.add_zero]
    by_cases hd : d = c
    · subst hd
      rw [if_pos rfl, if_pos rfl]
      by_cases hk : k' = k
      · subst hk
        rw [if_pos ⟨rfl, rfl⟩, List.count_cons_self, Nat.succ_mul]
      · rw [if_neg (fun h => csem_ne (c := d) (d := d) (i := some (1, k)) (j := some (1, k')) (fun e => hk (by simpa using e.symm)) h.1),
          List.count_cons_of_ne hk, Nat.add_zero]
    · rw [if_neg hd, if_neg hd, if_neg]
      rintro ⟨h, -⟩
      have h1 : c = d := congrArg (fun g : GSem nD τ sig => g.1.1) h
      exact hd h1.symm

theorem owedL_s (k : Fin 8) (ks : List (Fin 8)) : owedL d ks (xcell c (3, k)) () = if d = c then ks.count k * NS k else 0 := by
  induction ks with
  | nil => rw [List.count_nil, Nat.zero_mul, ite_self]; rfl
  | cons k' ks ih =>
    unfold owedL
    rw [Pi.add_apply, Finsupp.add_apply, Pi.add_apply, Finsupp.add_apply, ih,
      show (tallyAt (xcell d (1, k')) () (NQ k') : CellTallies nD τ sig Unit) (xcell c (3, k)) () = 0 from tally_ne (i := some (3, k)) (j := some (1, k')) (by simp) _,
      tallyAt_apply, Nat.add_zero]
    by_cases hd : d = c
    · subst hd
      rw [if_pos rfl, if_pos rfl]
      by_cases hk : k' = k
      · subst hk
        rw [if_pos ⟨rfl, rfl⟩, List.count_cons_self, Nat.succ_mul]
      · rw [if_neg (fun h => csem_ne (c := d) (d := d) (i := some (3, k)) (j := some (3, k')) (fun e => hk (by simpa using e.symm)) h.1),
          List.count_cons_of_ne hk, Nat.add_zero]
    · rw [if_neg hd, if_neg hd, if_neg]
      rintro ⟨h, -⟩
      have h1 : c = d := congrArg (fun g : GSem nD τ sig => g.1.1) h
      exact hd h1.symm

theorem count_allK (k : Fin 8) : allK.count k = 1 := by revert k; decide

theorem owed_bar : O₀ σ d (barCell c) () = if d = σ c then 1 else 0 := by
  unfold O₀
  rw [Pi.add_apply, Finsupp.add_apply, owedL_bar, Nat.zero_add, tallyAt_apply]
  by_cases h : d = σ c
  · subst h; rw [Equiv.symm_apply_apply, if_pos ⟨rfl, rfl⟩, if_pos rfl]
  · rw [if_neg h, if_neg]
    rintro ⟨h', -⟩
    have h1 : c = σ.symm d := congrArg (fun g : GSem nD τ sig => g.1.1) h'
    exact h (by rw [h1, Equiv.apply_symm_apply])
theorem owed_q (k : Fin 8) : O₀ σ d (xcell c (1, k)) () = if d = σ.symm c then NQ k else 0 := by
  unfold O₀
  rw [Pi.add_apply, Finsupp.add_apply, owedL_q, count_allK, Nat.one_mul,
    show (tallyAt (barCell (σ.symm d)) () 1 : CellTallies nD τ sig Unit) (xcell c (1, k)) () = 0 from tally_ne (i := some (1, k)) (j := none) (by simp) _, Nat.add_zero]
  by_cases h : d = σ.symm c
  · rw [if_pos h, if_pos (by rw [h, Equiv.apply_symm_apply])]
  · rw [if_neg h, if_neg (fun e => h (by rw [← e, Equiv.symm_apply_apply]))]
theorem owed_s (k : Fin 8) : O₀ σ d (xcell c (3, k)) () = if d = σ.symm c then NS k else 0 := by
  unfold O₀
  rw [Pi.add_apply, Finsupp.add_apply, owedL_s, count_allK, Nat.one_mul,
    show (tallyAt (barCell (σ.symm d)) () 1 : CellTallies nD τ sig Unit) (xcell c (3, k)) () = 0 from tally_ne (i := some (3, k)) (j := none) (by simp) _, Nat.add_zero]
  by_cases h : d = σ.symm c
  · rw [if_pos h, if_pos (by rw [h, Equiv.apply_symm_apply])]
  · rw [if_neg h, if_neg (fun e => h (by rw [← e, Equiv.symm_apply_apply]))]

/-- A cell that one device alone owes `n`: its credit. -/
theorem launch_one (g : GSem nD τ sig) (d₀ : Dev nD) (n : ℕ) (h : ∀ d, O₀ σ d g () = if d = d₀ then n else 0) :
    tallyOn g (launchCredit (Pipeline.owing (O₀ σ)) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ d₀ fun _ => n,
    if_pos (Finset.mem_univ _)]

omit [FloatOps F] in
theorem creds : (Pipeline.launchCred (O₀ σ) c : sProp 𝕄) ⊢ credit c := by
  have h : (Pipeline.launchCred (O₀ σ) c : sProp 𝕄)
      ⊢ allC fun i => cred (tallyOn (ccell c i) (launchCredit (Pipeline.owing (O₀ σ)) 0 (ccell c i))) := by
    unfold Pipeline.launchCred allC
    have h1 : (bigSep Finset.univ fun sm : SemLoc sig => (cred (tallyOn ((c : Thread nD τ), sm) (launchCredit (Pipeline.owing (O₀ σ)) 0 ((c : Thread nD τ), sm))) : sProp 𝕄))
        ⊢ bigSep (Finset.univ.map ⟨csem, csem_inj⟩) fun sm => cred (tallyOn ((c : Thread nD τ), sm) (launchCredit (Pipeline.owing (O₀ σ)) 0 ((c : Thread nD τ), sm))) :=
      bigSep_subset (Finset.subset_univ _)
    refine h1.trans (Entails.of_eq ?_)
    rw [bigSep_map]
    exact bigSep_congr fun i _ => by rw [cellAt_eq]; rfl
  refine h.trans ?_
  rw [allC_eq]
  unfold credit all8
  simp only [bigSep_sep']
  rw [show (fun k : Fin 8 => (cred (tallyAt (xcell c (1, k)) () (NQ k)) : sProp 𝕄))
      = fun k => cred (tallyOn (ccell c (some (1, k))) (launchCredit (Pipeline.owing (O₀ σ)) 0 (ccell c (some (1, k))))) from
        funext fun k => by rw [← launch_one σ (xcell c (1, k)) (σ.symm c) (NQ k) (fun d => owed_q σ c d k)]; rfl,
    show (fun k : Fin 8 => (cred (tallyAt (xcell c (3, k)) () (NS k)) : sProp 𝕄))
      = fun k => cred (tallyOn (ccell c (some (3, k))) (launchCredit (Pipeline.owing (O₀ σ)) 0 (ccell c (some (3, k))))) from
        funext fun k => by rw [← launch_one σ (xcell c (3, k)) (σ.symm c) (NS k) (fun d => owed_s σ c d k)]; rfl,
    ← launch_one σ (barCell c) (σ c) 1 (fun d => owed_bar σ c d)]
  iintro ⟨HB, -, H1, -, H3⟩
  isplitl [HB]; · iexact HB
  isplitl [H1]; · iexact H1
  iexact H3

end Credit

/-! ## Into the region and out of it -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' m σ c)
      ⊢ |={Set.univ}=> iprop(start m σ c ∗ emp) := by
  rw [show (Pipeline.unscopedRestP Pipeline.Prefetch.none cfg0.spec c (fun b => m ((c : Thread nD τ).loc b)) : sProp 𝕄)
      = Pipeline.unscopedRest spec0 c (fun b => m ((c : Thread nD τ).loc b)) from rfl]
  rw [unscopedRest0_eq]
  iintro ⟨⟨Hx, Ho⟩, Hlev, Hcr, -, HG⟩
  ihave Hc := (creds (F := F) σ c) $$ Hcr
  imodintro
  unfold start G'
  isplitl
  · isplitl [HG]; · iexact HG
    isplitl [Hlev]; · iexact Hlev
    isplitl [Hc]; · iexact Hc
    isplitl [Hx]; · iapply (Entails.of_eq (x_pieces m c)); iexact Hx
    iapply (o_pieces (F := F) c); iexists (m ((c : Thread nD τ).loc main_v1)); iexact Ho
  · iempintro

theorem to_rest (c : Dev nD) :
    iprop(linear σ c ∗ credit c ∗ all8 (xPc m c) ∗ all8 (oPc c) ∗ (xvSlot c 0 ∗ xvSlot c 1) ∗ all8 (qbPc c) ∗ all8 (sbPc c) ∗ (ovSlot c 0 ∗ ovSlot c 1))
      ⊢ iprop(dutyTok ER (barCell (σ.symm c)) 0 () ∗ restIn m σ c) := by
  unfold linear credit restIn slotX slotO slotSems toSend toRecv sentAt sendToks all8
  simp only [bigSep_sep']
  iintro ⟨⟨HT, Htk, ⟨HaB, ⟨Ha0, Ha2⟩, ⟨Ha1, Ha3⟩⟩, ⟨⟨L0, L1⟩, ⟨S0, S1⟩⟩⟩, ⟨HcB, Hc1, Hc3⟩, Hx, Ho, ⟨X0, X1⟩, Hq, Hs, ⟨O0, O1⟩⟩
  isplitl [HT]; · iexact HT
  isplitl [Hx]; · iexact Hx
  isplitl [X0 X1 L0 L1]
  · isplitl [X0 L0]
    · isplitl [X0]; · iexact X0
      iexact L0
    isplitl [X1]; · iexact X1
    iexact L1
  isplitl [Hq Hs Htk]
  · isplitl [Hq]; · iexact Hq
    isplitl [Hs]; · iexact Hs
    iexact Htk
  isplitl [Ho]; · iexact Ho
  isplitl [O0 O1 S0 S1]
  · isplitl [O0 S0]
    · isplitl [O0]; · iexact O0
      iexact S0
    isplitl [O1]; · iexact O1
    iexact S1
  isplitl [Ha1 Ha3 Hc1 Hc3]
  · isplitl [Hc1 Hc3]
    · isplitl [Hc1]; · iexact Hc1
      iexact Hc3
    isplitl [Ha1]; · iexact Ha1
    iexact Ha3
  isplitl [Ha0 Ha2]
  · isplitl [Ha0]; · iexact Ha0
    iexact Ha2
  isplitl [HcB]; · iexact HcB
  iexact HaB

theorem phi_in (c : Dev nD) :
    iprop(start m σ c ∗ Pipeline.prefHeld Pipeline.Prefetch.none c (fun _ => fullShare.right) (fun k => k.elim0) ∗ Pipeline.scopedRest cfg0.spec c)
      ⊢ (dats m ρ σ 0 c).Φ 0 := by
  rw [show (dats m ρ σ 0 c).Φ 0 = Φ₀ m σ c from rfl, scopedRest0_eq]
  unfold Φ₀ start
  iintro ⟨⟨⟨%K, HR, Hlin⟩, HL, Hcr, Hx, Ho⟩, -, ⟨B0, B1, B2, B3, B4, B5⟩⟩
  ihave B0 := (xv_pieces (F := F) c) $$ B0
  ihave B1 := (qb_pieces (F := F) c) $$ B1
  ihave B2 := (sb_pieces (F := F) c) $$ B2
  ihave B3 := (qr_pieces (F := F) c) $$ B3
  ihave B4 := (sr_pieces (F := F) c) $$ B4
  ihave B5 := (ov_pieces (F := F) c) $$ B5
  iexists K
  isplitl [HR]; · iexact HR
  isplitl [HL]; · iexact HL
  ihave H := (to_rest m σ c) $$ [Hlin Hcr Hx Ho B0 B1 B2 B5]
  · isplitl [Hlin]; · iexact Hlin
    isplitl [Hcr]; · iexact Hcr
    isplitl [Hx]; · iexact Hx
    isplitl [Ho]; · iexact Ho
    isplitl [B0]; · iexact B0
    isplitl [B1]; · iexact B1
    isplitl [B2]; · iexact B2
    iexact B5
  icases H with ⟨HT, Hrest⟩
  isplitl [HT]; · iexact HT
  isplitl [B3 B4]
  · unfold lands
    rw [bigSep_sep']
    isplitl [B3]; · iexact B3
    iexact B4
  iexact Hrest

/-- What a device keeps of the run: its barrier at zero, its shard as it was, its result. -/
def kept (c : Dev nD) : sProp 𝕄 :=
  iprop(unscopedSems0 c ∗ (((c : Thread nD τ).loc main_arg0) ↦{fullShare} (m ((c : Thread nD τ).loc main_arg0)))
    ∗ ∃ g : Buf (Elt F) ((c : Thread nD τ).loc main_v1), ⌜Good m σ c g⌝ ∗ ((c : Thread nD τ).loc main_v1) ↦{fullShare} g)

theorem phi_out (c : Dev nD) :
    (dats m ρ σ 0 c).Φ (Fin.last cfg0.N) ⊢ iprop(kept m σ c ∗ Pipeline.ownSems0 osem c ∗ Pipeline.scopedRest cfg0.spec c) := by
  rw [show (dats m ρ σ 0 c).Φ (Fin.last cfg0.N) = restOut m σ c from rfl, scopedRest0_eq]
  unfold restOut kept slotX slotO doneS doneR landPc all8
  simp only [bigSep_sep']
  rw [unscoped_eq]
  iintro ⟨Hx, ⟨⟨X0, L0⟩, ⟨X1, L1⟩⟩, ⟨⟨Hq, Hs⟩, V0, V2⟩, Ho, ⟨⟨O0, S0⟩, ⟨O1, S1⟩⟩, ⟨⟨Hqr, Hsr⟩, V1, V3⟩, HB⟩
  isplitl [Hx Ho HB]
  · isplitl [HB]; · iexact HB
    isplitl [Hx]; · iapply (Entails.of_eq (x_pieces m c).symm); iexact Hx
    iapply (o_whole m σ c); iexact Ho
  isplitl [L0 L1 S0 S1 V0 V1 V2 V3]
  · iapply (ownSems_back (F := F) c)
    unfold slotSems all8
    isplitl [L0 L1 S0 S1]
    · isplitl [L0 L1]
      · isplitl [L0]; · iexact L0
        iexact L1
      isplitl [S0]; · iexact S0
      iexact S1
    isplitl [V0]; · iexact V0
    isplitl [V1]; · iexact V1
    isplitl [V2]; · iexact V2
    iexact V3
  isplitl [X0 X1]
  · iapply (xv_whole (F := F) c)
    isplitl [X0]; · iexact X0
    iexact X1
  isplitl [Hq]; · iapply (qb_whole (F := F) c); iexact Hq
  isplitl [Hs]; · iapply (sb_whole (F := F) c); iexact Hs
  isplitl [Hqr]; · iapply (qr_whole (F := F) c); iexact Hqr
  isplitl [Hsr]; · iapply (sr_whole (F := F) c); iexact Hsr
  iapply (ov_whole (F := F) c)
  isplitl [O0]; · iexact O0
  iexact O1

omit [FloatOps F] in
theorem mayWait_stage (c : Dev nD) (q : DmaSem sig) (hq : lv ((c : Thread nD τ), .dma q) () = 0) (O : CellTallies nD τ sig Unit) (hO : O = O₀ σ c ∨ O = 0) :
    (levAts L lv : sProp 𝕄) ⊢ MayWait (c : Thread nD τ) (.dma q) () O := by
  rcases hO with rfl | rfl
  · exact mayWait_first σ c (.dma q) hq
  · rw [MayWait_zero]; iintro -; iempintro

theorem waits (c : Dev nD) : (levAts L lv : sProp 𝕄) ⊢ Pipeline.cellsWaits cfgs (dats m ρ σ) () 0 c :=
  Pipeline.cellsWaits_intro cfgs (dats m ρ σ) () 0 c fun w s t =>
    mayWait_stage σ c _ (if_neg (by fin_cases w; fin_cases s; decide)) _ (by
      rcases t with ⟨_ | _, ht⟩
      · exact Or.inl rfl
      · exact Or.inr rfl)

/-! ## The run -/

/-- What the final memory of device `c` satisfies beyond the staged window. -/
def Kept (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0) ∧ Good m σ c (s.mem ((c : Thread nD τ).loc main_v1))

omit [FloatOps F] in
/-- A whole buffer read off the final memory. -/
theorem read_one (c : Dev nD) (b : Ref sig .tc) (f : Buf (Elt F) ((c : Thread nD τ).loc b)) (s' : Phys nD τ sig (Elt F)) :
    iprop((((c : Thread nD τ).loc b) ↦{fullShare} f : sProp 𝕄) ∗ SI s') ⊢ iprop(⌜s'.mem.mem ((c : Thread nD τ).loc b) = f⌝ ∗ SI s') := by
  iintro ⟨H, HS⟩
  icombine HS H gives %h
  isplitr; · ipureintro; exact Buf.eq_of_forall_mem_univ h
  iexact HS

theorem kept_read (c : Dev nD) (s' : Phys nD τ sig (Elt F)) :
    iprop(kept m σ c ∗ emp ∗ SI s') ⊢ |={Set.univ}=> iprop(⌜Kept m σ c s'.mem⌝ ∗ SI s') := by
  unfold kept
  iintro ⟨⟨Hu, Hx, ⟨%g, %hg, Ho⟩⟩, -, HS⟩
  ihave H := (read_one c main_arg0 _ s') $$ [Hx HS]
  · isplitl [Hx]; · iexact Hx
    iexact HS
  icases H with ⟨%hx, HS⟩
  ihave H := (read_one c main_v1 _ s') $$ [Ho HS]
  · isplitl [Ho]; · iexact Ho
    iexact HS
  icases H with ⟨%ho, HS⟩
  imod (Pipeline.unscopedSems0_read (X := unscopedSems0 c) (c := c) fupd_intro s') $$ [Hu HS] with ⟨%hs, HS⟩
  · isplitl [Hu]; · iexact Hu
    iexact HS
  imodintro
  isplitr
  · ipureintro
    exact ⟨hs, hx, by rw [ho]; exact hg⟩
  iexact HS

omit [FloatOps F] in
theorem to_ER (a : UB) : (BI.own (((Emb.inl : Emb UB (UB × Counters)).trans embR) a) : sProp 𝕄) ⊢ BI.own (ER (F := F) a) := by
  unfold ER; exact .rfl

/-- What every run ends with: every counter at zero, the arguments as they were, and every chunk of every result the
    dequantised chunk of the sender. -/
def Post (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ Good m σ c (r.2.mem ((c : Thread nD τ).loc main_v1)))
  ∧ r.2.sem = fun _ => 0

set_option maxRecDepth 8000 in
theorem run_main (hT : ∀ c, TableOK σ (tab m c)) : θ_run defs (onTc (τ := τ) (main (F := F))) (s₀ m ρ) (Post m σ) :=
  Pipeline.θ_run_region_owing_glob_pf (fun p => (cfgs p).toPCfg) (fun p => (cfgs p).toPCfg_adm) (dats m ρ σ) () cellOf_inj (0 : Fin 1)
    winFacts0.to₀ ownSemFacts (Pipeline.PreFacts.none _) EP defs₀ 𝒱₀ m ρ main
    (hmain := fun _ => rfl)
    (hbody := fun c => (body_obligation m ρ σ hT c).loose) (hne := block_pos0) (harr := arr_whole0) (hstage := stage_whole0) (hshare := share_eq m ρ σ)
    (hdistinct := winFacts0.arr_inj)
    (O₀ := O₀ σ) (howed₀ := fun _ => rfl) (howedN := fun _ => rfl)
    (L := L) (lv := lv) (hL := L_of_ne) (hwaits := waits m ρ σ)
    (G := G m σ) (G' := G' m σ) (u₀ := u₀)
    (hu₀ := by
      unfold u₀
      iintro Hu
      ihave H := (ownU_pair _ _) $$ Hu
      icases H with ⟨HP, HX⟩
      ihave H := (own_pair_emb _ _ _) $$ HX
      icases H with ⟨HX, -⟩
      ihave HX := (to_ER (F := F) _) $$ HX
      imod (fund_cells m σ) $$ HX with HG
      imodintro
      isplitl [HP]; · iexact HP
      iexact HG)
    (hglob := glob m σ)
    (hA := fun _ _ => rfl) (hpf := fun _ k => k.elim0)
    (X := start m σ) (Y := kept m σ) (Z := fun _ => iprop(emp))
    (hX := start_intro m ρ σ) (hin := phi_in m ρ σ) (hout := phi_out m ρ σ)
    (QY := Kept m σ) (hY := kept_read m σ)
    (hQ := fun s h hs => ⟨fun c => ⟨(h c).2.2.2.1, ((h c).1 0).trans ((dats m ρ σ 0 c).arrAt_in 0 rfl _), (h c).2.2.2.2⟩,
      sem_eq_zero hs fun c => (h c).2.2.1⟩)

end Cert.PermProof

end
-- ==== Proof.Frames.lean ====
/-
# The kernel's frames

Each precondition reads a device's table as one roll; the run of the general permutation is taken at it.
-/
module

public import proofs.«01_k».proof.Proof.Run
public import proofs.«01_k».proof.Defs
public import Idealize.ShloMosaic.Lib.Affine
public import proofs.«01_k».proof.Proof.Gen.Kernel
public import proofs.«01_k».proof.Proof.Gen.Pre_rolled_by_1_Kernel
public import proofs.«01_k».proof.Proof.Gen.Pre_rolled_by_2_Kernel
public import proofs.«01_k».proof.Proof.Gen.Pre_rolled_by_3_Kernel
public import proofs.«01_k».proof.Proof.Gen.Pre_rolled_by_4_Kernel
public import proofs.«01_k».proof.Proof.Gen.Pre_rolled_by_5_Kernel
public import proofs.«01_k».proof.Proof.Gen.Pre_rolled_by_6_Kernel
public import proofs.«01_k».proof.Proof.Gen.Pre_rolled_by_7_Kernel

@[expose] public section

noncomputable section

namespace Cert.PermProof

open Cert.KernelIdeal Cert.KernelIdeal.Gen
open Idealize.ShloMosaic Idealize.ShloMosaic.TcCoe Idealize.SL.Sem

variable {F : FTy → Type} [FloatOps F]

/-- The roll that sends device `j` to `j - n`. -/
def roll (n : Fin 8) : Equiv.Perm (Dev nD) := Equiv.subRight (n : Fin 8)

/-- An equality test that holds everywhere, at one entry. -/
theorem of_all_eq {s : Shape} {a b : IVec s 32} (h : cmpi .eq a b = fun _ => 1#1) (i : s.Idx) : a i = b i := by
  have hi : BitVec.ofBool (a i == b i) = 1#1 := congrFun h i
  by_contra hne
  rw [beq_false_of_ne hne] at hi
  exact absurd hi (by decide)

/-- The remainder by eight as the preconditions compute it, of one word. -/
def rem8 (a : BitVec 32) : BitVec 32 :=
  let r := IntOp.remsi .host a 8#32
  Scalar.select (IntOp.andi (IntOp.cmpi .ne (IntOp.cmpi .slt r 0#32) (IntOp.cmpi .slt 8#32 0#32)) (IntOp.cmpi .ne r 0#32)) (IntOp.addi r 8#32) r

theorem rem8_eq (k : Fin 16) : rem8 (BitVec.ofNat 32 k.val) = BitVec.ofNat 32 (k.val % 8) := by
  unfold rem8
  rw [IntOp.remsi_of_pos .host (by decide)]
  revert k; decide

/-- A table whose every entry `j` is `j - n`. -/
def Rolled (n : Fin 8) (p : S8.Idx → BitVec 32) : Prop := ∀ j : Fin 8, p (ix8 j) = BitVec.ofNat 32 (j - n).val

theorem roll_word (n : Fin 8) (j : Fin 8) : rem8 (IntOp.addi (BitVec.ofNat 32 j.val) (BitVec.ofNat 32 (8 - n.val))) = BitVec.ofNat 32 (j - n).val := by
  have h : IntOp.addi (BitVec.ofNat 32 j.val) (BitVec.ofNat 32 (8 - n.val)) = BitVec.ofNat 32 (j.val + (8 - n.val)) := (BitVec.ofNat_add _ _).symm
  have hk : j.val + (8 - n.val) < 16 := by omega
  rw [h, rem8_eq ⟨_, hk⟩]
  revert n j; decide

theorem rolled_1 (x : FVec F Pre_rolled_by_1_Kernel.S1x2048x1024 .f32) (p : IVec S8 32) (h : Pre_rolled_by_1_Kernel.fn (F := F) x p = fun _ => 1#1) : Rolled 1 p :=
  fun j => (of_all_eq h (ix8 j)).trans (roll_word 1 j)
theorem rolled_2 (x : FVec F Pre_rolled_by_2_Kernel.S1x2048x1024 .f32) (p : IVec S8 32) (h : Pre_rolled_by_2_Kernel.fn (F := F) x p = fun _ => 1#1) : Rolled 2 p :=
  fun j => (of_all_eq h (ix8 j)).trans (roll_word 2 j)
theorem rolled_3 (x : FVec F Pre_rolled_by_3_Kernel.S1x2048x1024 .f32) (p : IVec S8 32) (h : Pre_rolled_by_3_Kernel.fn (F := F) x p = fun _ => 1#1) : Rolled 3 p :=
  fun j => (of_all_eq h (ix8 j)).trans (roll_word 3 j)
theorem rolled_4 (x : FVec F Pre_rolled_by_4_Kernel.S1x2048x1024 .f32) (p : IVec S8 32) (h : Pre_rolled_by_4_Kernel.fn (F := F) x p = fun _ => 1#1) : Rolled 4 p :=
  fun j => (of_all_eq h (ix8 j)).trans (roll_word 4 j)
theorem rolled_5 (x : FVec F Pre_rolled_by_5_Kernel.S1x2048x1024 .f32) (p : IVec S8 32) (h : Pre_rolled_by_5_Kernel.fn (F := F) x p = fun _ => 1#1) : Rolled 5 p :=
  fun j => (of_all_eq h (ix8 j)).trans (roll_word 5 j)
theorem rolled_6 (x : FVec F Pre_rolled_by_6_Kernel.S1x2048x1024 .f32) (p : IVec S8 32) (h : Pre_rolled_by_6_Kernel.fn (F := F) x p = fun _ => 1#1) : Rolled 6 p :=
  fun j => (of_all_eq h (ix8 j)).trans (roll_word 6 j)
theorem rolled_7 (x : FVec F Pre_rolled_by_7_Kernel.S1x2048x1024 .f32) (p : IVec S8 32) (h : Pre_rolled_by_7_Kernel.fn (F := F) x p = fun _ => 1#1) : Rolled 7 p :=
  fun j => (of_all_eq h (ix8 j)).trans (roll_word 7 j)

variable (m : (ℓ : Loc nD τ sig) → Buf (Elt F) ℓ) (ρ : Dev nD → PrngReg)

/-- The run at a roll. -/
theorem run_roll (n : Fin 8) (h : ∀ c : Dev nD, Rolled n (m ((c : Thread nD τ).loc main_arg1))) :
    θ_run defs (onTc (τ := τ) (main (F := F))) (s₀ m ρ) (Post m (roll n)) :=
  run_main m ρ (roll n) fun c j => by rw [tab_eq]; exact h c j

theorem ideal_frame (m : (ℓ : Loc nD τ sig) → Buf (Elt Ideal) ℓ) (ρ : Dev nD → PrngReg) (n : Fin 8) (h : ∀ c : Dev nD, Rolled n (m ((c : Thread nD τ).loc main_arg1))) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run_roll m ρ n h)

set_option smartUnfolding false in
/-- The two programs have the same text: their runs are one run. -/
theorem same_run (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop) :
    θ_run (Cert.Kernel.defs (F := Bits)) (onTc (τ := Cert.Kernel.τ) (Cert.Kernel.main (F := Bits))) ⟨m, fun _ => 0, ρ⟩ Q
      = θ_run (defs (F := Bits)) (onTc (τ := τ) (main (F := Bits))) (s₀ m ρ) Q := rfl

theorem kernel_frame (m : (ℓ : Loc Cert.Kernel.nD Cert.Kernel.τ Cert.Kernel.sig) → Buf (Elt Bits) ℓ) (ρ : Dev Cert.Kernel.nD → PrngReg) (n : Fin 8)
    (h : ∀ c : Dev Cert.Kernel.nD, Rolled n (m ((c.tc : Thread Cert.Kernel.nD Cert.Kernel.τ).loc Cert.Kernel.main_arg1))) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [same_run]
  exact (θ_run Cert.KernelIdeal.defs _ _).mono (fun _ h => ⟨fun c => ⟨(h.1 c).1, (h.1 c).2.1⟩, h.2⟩) (run_roll (F := Bits) m ρ n h)

/-! ## The claims -/

theorem frame_1 : Cert.quiescent_Kernel := fun m ρ h => kernel_frame m ρ 1 fun c => rolled_1 _ _ (h c)
theorem frame_2 : Cert.quiescent_Kernel_pre_rolled_by_2_Kernel := fun m ρ h => kernel_frame m ρ 2 fun c => rolled_2 _ _ (h c)
theorem frame_3 : Cert.quiescent_Kernel_pre_rolled_by_3_Kernel := fun m ρ h => kernel_frame m ρ 3 fun c => rolled_3 _ _ (h c)
theorem frame_4 : Cert.quiescent_Kernel_pre_rolled_by_4_Kernel := fun m ρ h => kernel_frame m ρ 4 fun c => rolled_4 _ _ (h c)
theorem frame_5 : Cert.quiescent_Kernel_pre_rolled_by_5_Kernel := fun m ρ h => kernel_frame m ρ 5 fun c => rolled_5 _ _ (h c)
theorem frame_6 : Cert.quiescent_Kernel_pre_rolled_by_6_Kernel := fun m ρ h => kernel_frame m ρ 6 fun c => rolled_6 _ _ (h c)
theorem frame_7 : Cert.quiescent_Kernel_pre_rolled_by_7_Kernel := fun m ρ h => kernel_frame m ρ 7 fun c => rolled_7 _ _ (h c)

theorem ideal_1 : Cert.quiescent_KernelIdeal := fun m ρ h => ideal_frame m ρ 1 fun c => rolled_1 _ _ (h c)
theorem ideal_2 : Cert.quiescent_KernelIdeal_pre_rolled_by_2_Kernel := fun m ρ h => ideal_frame m ρ 2 fun c => rolled_2 _ _ (h c)
theorem ideal_3 : Cert.quiescent_KernelIdeal_pre_rolled_by_3_Kernel := fun m ρ h => ideal_frame m ρ 3 fun c => rolled_3 _ _ (h c)
theorem ideal_4 : Cert.quiescent_KernelIdeal_pre_rolled_by_4_Kernel := fun m ρ h => ideal_frame m ρ 4 fun c => rolled_4 _ _ (h c)
theorem ideal_5 : Cert.quiescent_KernelIdeal_pre_rolled_by_5_Kernel := fun m ρ h => ideal_frame m ρ 5 fun c => rolled_5 _ _ (h c)
theorem ideal_6 : Cert.quiescent_KernelIdeal_pre_rolled_by_6_Kernel := fun m ρ h => ideal_frame m ρ 6 fun c => rolled_6 _ _ (h c)
theorem ideal_7 : Cert.quiescent_KernelIdeal_pre_rolled_by_7_Kernel := fun m ρ h => ideal_frame m ρ 7 fun c => rolled_7 _ _ (h c)

end Cert.PermProof

end
-- ==== Proof.Value.lean ====
/-
# The values, in the extended reals

The table of a roll by `n` has the argsort `i ↦ i + n`, so the reference's row block `i` is the quantised shard `i + n`:
the shard that the kernel's device `i` receives. Of one chunk both sides take the largest magnitude, the reference by
rows and then over the rows, the kernel in one reduction; they then do the same arithmetic with it, except that the
reference reaches the eight-bit word through a thirty-two-bit one, which is the same number between −127 and 127.
-/
module

public import proofs.«01_k».proof.Proof.Reference
public import proofs.«01_k».proof.Proof.Frames
public import Idealize.ShloMosaic.Lib.Pointwise
public import Idealize.ShloMosaic.Lib.ValueLayout

@[expose] public section

set_option maxRecDepth 16384

noncomputable section

namespace Cert.PermProof.Ref

open Cert.ReferenceIdeal Cert.ReferenceIdeal.Gen
open Idealize.ShloMosaic Idealize.ShloMosaic.TcCoe Idealize.SL.Sem

variable {F : FTy → Type} [FloatOps F]

/-! ## The picked shard -/

/-- The table of the roll by `n`. -/
def tableOf (n : Fin 8) : IVec S8 32 := fun i => BitVec.ofNat 32 (@HSub.hSub (Fin 8) (Fin 8) (Fin 8) _ (i 0) n).val

theorem order_at (n j : Fin 8) : order (tableOf n) (ix1 j) = BitVec.ofNat 32 (j + n).val := by
  revert n j; decide

theorem starts_at (n j : Fin 8) (i : S8x1.Idx) (hi : i 0 = j) : starts (tableOf n) i = BitVec.ofNat 32 (j + n).val := by
  have h : starts (tableOf n) i = Scalar.select (IntOp.cmpi .slt (order (tableOf n) (ix1 j)) 0#32) (IntOp.addi (order (tableOf n) (ix1 j)) 8#32) (order (tableOf n) (ix1 j)) := by
    subst hi
    pointwise [starts]
  rw [h, order_at]
  generalize j + n = t
  revert t; decide

/-- Shard `j` of the result is shard `j + n` of the argument. -/
theorem picked_at (x : FVec F S8x2048x1024 .f32) (n j : Fin 8) (r : Fin 2048) (l : Fin 1024) :
    picked x (tableOf n) (ix3 j r l) = x (ix3 (j + n) r l) := by
  unfold picked Host.gather
  congr 1
  funext a
  refine Fin.ext ?_
  match a with
  | ⟨0, _⟩ =>
    show (min (starts (tableOf n) _).toInt.toNat 7) + 0 + 0 = (j + n).val
    rw [starts_at n j _ rfl]
    generalize j + n = t
    revert t; decide
  | ⟨1, _⟩ => exact Nat.zero_add _
  | ⟨2, _⟩ => exact Nat.zero_add _

/-! ## The reference's operations at an index -/

abbrev botI : EReal := Ideal.ofBits .f32 0xFF800000#32
abbrev tinyI : EReal := Ideal.ofBits .f32 0x0DA24260#32
abbrev topI : EReal := Ideal.ofBits .f32 0x42FE0000#32
abbrev lowI : EReal := Ideal.ofBits .f32 0xC2FE0000#32
abbrev invI : EReal := Ideal.ofBits .f32 0x3C010204#32

theorem rows_at (y : FVec Ideal S8x2048x1024 .f32) (j : Fin 8) (r : Fin 2048) :
    rows y (ix2 j r) = Finset.univ.fold max botI fun l : Fin 1024 => FloatOps.absf (y (ix3 j r l)) := by
  pointwise [rows, bot]

/-- The largest of `n` rows of shard `j` from row `a`. -/
def peak (t : FVec Ideal S8x2048 .f32) (j : Fin 8) (a n : ℕ) (h : a + n ≤ 2048) : EReal :=
  Finset.univ.fold max botI fun r : Fin n => t (ix2 j ⟨a + r.val, by omega⟩)

theorem tops_ladder (t : FVec Ideal S8x2048 .f32) (j : Fin 8) (r : Fin 2048) :
    tops t (ix2 j r) =
      if r.val < 64 then peak t j 0 64 (by decide) else if r.val - 64 < 128 then peak t j 64 128 (by decide)
      else if r.val - 64 - 128 < 256 then peak t j 192 256 (by decide) else if r.val - 64 - 128 - 256 < 384 then peak t j 448 384 (by decide)
      else if r.val - 64 - 128 - 256 - 384 < 448 then peak t j 832 448 (by decide)
      else if r.val - 64 - 128 - 256 - 384 - 448 < 384 then peak t j 1280 384 (by decide)
      else if r.val - 64 - 128 - 256 - 384 - 448 - 384 < 256 then peak t j 1664 256 (by decide) else peak t j 1920 128 (by decide) := by
  have h0 : peak t j 0 64 (by decide) = Finset.univ.fold max botI fun r : Fin 64 => t (ix2 j ⟨r.val, by omega⟩) := by
    unfold peak; congr 1; funext r; congr 2; exact Fin.ext (Nat.zero_add _)
  rw [h0]
  pointwise [tops, bot]
  rfl

theorem clipped_at (y : FVec Ideal S8x2048x1024 .f32) (t : FVec Ideal S8x2048 .f32) (j : Fin 8) (r : Fin 2048) (l : Fin 1024) :
    clipped y (floored t) (ix3 j r l)
      = min topI (max lowI (Ideal.liftRound Ideal.roundHalfEven (y (ix3 j r l) * Ideal.div topI (max (t (ix2 j r)) tinyI)))) := by
  pointwise [clipped, floored]
  rfl

theorem spread_at (q : FVec Ideal S8x2048x1024 .f32) (t : FVec Ideal S8x2048 .f32) (j : Fin 8) (r : Fin 2048) (l : Fin 1024) :
    spread q (floored t) (ix3 j r l)
      = (((((Ideal.fptosi 32 (q (ix3 j r l))).setWidth 8).signExtend 32).toInt : ℝ) : EReal) * (max (t (ix2 j r)) tinyI * invI) := by
  pointwise [spread, floored]
  rfl

theorem lowI_eq : lowI = ((-127 : ℝ) : EReal) := by
  simp [Ideal.ofBits, Ideal.ieee]; rw [← EReal.coe_mul]; norm_num
theorem topI_eq : topI = ((127 : ℝ) : EReal) := by
  simp [Ideal.ofBits, Ideal.ieee]; rw [← EReal.coe_mul]; norm_num

theorem word_small (k : Fin 255) :
    (((BitVec.ofInt 32 ((k.val : ℤ) - 127)).setWidth 8).signExtend 32).toInt = (BitVec.ofInt 8 ((k.val : ℤ) - 127)).toInt := by
  revert k; decide

/-- Between −127 and 127 the eight-bit word is the same number reached either way. -/
theorem word_eq (w : EReal) :
    (((Ideal.fptosi 32 (min topI (max lowI w))).setWidth 8).signExtend 32).toInt = (Ideal.fptosi 8 (min topI (max lowI w))).toInt := by
  have hz : ∃ z : ℝ, min topI (max lowI w) = (z : EReal) ∧ -127 ≤ z ∧ z ≤ 127 := by
    rw [topI_eq, lowI_eq]
    have h1 : min ((127 : ℝ) : EReal) (max ((-127 : ℝ) : EReal) w) ≤ ((127 : ℝ) : EReal) := min_le_left _ _
    have h2 : ((-127 : ℝ) : EReal) ≤ min ((127 : ℝ) : EReal) (max ((-127 : ℝ) : EReal) w) :=
      le_min (by exact_mod_cast (by norm_num : (-127 : ℝ) ≤ 127)) (le_max_left _ _)
    generalize min ((127 : ℝ) : EReal) (max ((-127 : ℝ) : EReal) w) = v at h1 h2
    induction v using EReal.rec with
    | bot => exact absurd (le_bot_iff.mp h2) (EReal.coe_ne_bot _)
    | top => exact absurd (top_le_iff.mp h1) (EReal.coe_ne_top _)
    | coe z => exact ⟨z, rfl, by exact_mod_cast h2, by exact_mod_cast h1⟩
  obtain ⟨z, hz, h1, h2⟩ := hz
  rw [hz]
  unfold Ideal.fptosi
  rw [Ideal.toIntClamped_coe, Ideal.toIntClamped_coe]
  have ht : ∃ t : ℤ, (if 0 ≤ z then ⌊z⌋ else ⌈z⌉) = t ∧ -127 ≤ t ∧ t ≤ 127 := by
    refine ⟨_, rfl, ?_, ?_⟩
    · split
      · exact Int.le_floor.mpr (by push_cast; exact h1)
      · have h := Int.le_ceil z
        have : ((-127 : ℤ) : ℝ) ≤ (⌈z⌉ : ℝ) := by push_cast; linarith
        exact_mod_cast this
    · split
      · have h := Int.floor_le z
        have : (⌊z⌋ : ℝ) ≤ ((127 : ℤ) : ℝ) := by push_cast; linarith
        exact_mod_cast this
      · exact Int.ceil_le.mpr (by push_cast; exact h2)
  obtain ⟨t, ht, t1, t2⟩ := ht
  rw [ht]
  have e32 : max (-((2 ^ (32 - 1) : ℕ) : ℤ)) (min (((2 ^ (32 - 1) : ℕ) : ℤ) - 1) t) = t := by
    have : ((2 ^ (32 - 1) : ℕ) : ℤ) = 2147483648 := by norm_num
    rw [this]; omega
  have e8 : max (-((2 ^ (8 - 1) : ℕ) : ℤ)) (min (((2 ^ (8 - 1) : ℕ) : ℤ) - 1) t) = t := by
    have : ((2 ^ (8 - 1) : ℕ) : ℤ) = 128 := by norm_num
    rw [this]; omega
  rw [e32, e8]
  have h := word_small ⟨(t + 127).toNat, by omega⟩
  have e : (((⟨(t + 127).toNat, by omega⟩ : Fin 255).val : ℕ) : ℤ) - 127 = t := by
    show (((t + 127).toNat : ℕ) : ℤ) - 127 = t
    omega
  rw [e] at h
  exact h

/-! ## The result of the reference -/

/-- The dequantised element: the largest magnitude `p` of its chunk, the element `v`. -/
def cell (p v : EReal) : EReal :=
  (((Ideal.fptosi 8 (min topI (max lowI (Ideal.liftRound Ideal.roundHalfEven (v * Ideal.div topI (max p tinyI)))))).toInt : ℝ) : EReal) * (max p tinyI * invI)

theorem quantised_at (y : FVec Ideal S8x2048x1024 .f32) (j : Fin 8) (r : Fin 2048) (l : Fin 1024) :
    quantised y (ix3 j r l) = cell (tops (rows y) (ix2 j r)) (y (ix3 j r l)) := by
  unfold quantised scale
  rw [spread_at, clipped_at, word_eq]
  rfl

end Cert.PermProof.Ref

namespace Cert.PermProof

open Cert.KernelIdeal Cert.KernelIdeal.Gen
open Idealize.ShloMosaic Idealize.ShloMosaic.TcCoe Idealize.SL.Sem
open Ref (botI tinyI topI lowI invI cell peak)

/-! ## The kernel's chunk at an index -/

/-- The largest magnitude of a chunk. -/
def kPeak (k : Fin 8) (v : Vec Ideal (BS k) .f32) : EReal :=
  (multiReduction (F := Ideal) (φ := .f32) .maximumf [1, 2] S1 (shapeCast (BS k) (absf (F := Ideal) (φ := .f32) (shapeCast (QS k) v (castBQ k))) (castQB k)) 0xFF800000#32 (redB k) (.inl rfl) rfl) (ix1 0)

theorem one_idx (i i' : S1.Idx) : i = i' :=
  funext fun a => match a with | ⟨0, _⟩ => Subsingleton.elim (α := Fin 1) _ _

theorem flat_at {α : Type} (k : Fin 8) (v : (BS k).Idx → α) (r : Fin (sz k)) (l : Fin 1024) : shapeCast (QS k) v (castBQ k) (ix2 r l) = v (ix3 0 r l) :=
  (congrArg _ (by funext a; match a with | ⟨0, _⟩ => rfl | ⟨1, _⟩ => rfl)).trans
    ((ValueIdx.shapeCast_1ab_ab_apply v (castBQ k) r l).trans (congrArg v (by funext a; match a with | ⟨0, _⟩ => rfl | ⟨1, _⟩ => rfl | ⟨2, _⟩ => rfl)))

theorem block_at {α : Type} (k : Fin 8) (v : (QS k).Idx → α) (r : Fin (sz k)) (l : Fin 1024) : shapeCast (BS k) v (castQB k) (ix3 0 r l) = v (ix2 r l) :=
  (congrArg _ (by funext a; match a with | ⟨0, _⟩ => rfl | ⟨1, _⟩ => rfl | ⟨2, _⟩ => rfl)).trans
    ((ValueIdx.shapeCast_ab_1ab_apply v (castQB k) 0 r l).trans (congrArg v (by funext a; match a with | ⟨0, _⟩ => rfl | ⟨1, _⟩ => rfl)))

theorem kScale_eq (k : Fin 8) (v : Vec Ideal (BS k) .f32) : kScale k v = max (kPeak k v) tinyI := by
  unfold kScale kPeak
  show max _ tinyI = _
  congr 1
  unfold extractAt shapeCast
  congr 1
  exact one_idx _ _

theorem kPeak_le (k : Fin 8) (v : Vec Ideal (BS k) .f32) (b : EReal) :
    kPeak k v ≤ b ↔ botI ≤ b ∧ ∀ (r : Fin (sz k)) (l : Fin 1024), (FloatOps.absf (F := Ideal) (φ := .f32) (v (ix3 0 r l)) : EReal) ≤ b := by
  have e : shapeCast (BS k) (absf (F := Ideal) (φ := .f32) (shapeCast (QS k) v (castBQ k))) (castQB k) = absf (F := Ideal) (φ := .f32) v := by
    funext i
    show FloatOps.absf (F := Ideal) (φ := .f32) (shapeCast (BS k) (shapeCast (QS k) v (castBQ k)) (castQB k) i) = _
    rw [shapeCast_shapeCast]
    rfl
  unfold kPeak
  rw [e]
  show reduceFold (redB k) (max : EReal → EReal → EReal) botI (absf (F := Ideal) (φ := .f32) v) (ix1 0) ≤ b ↔ _
  rw [reduceFold_eq_fold, Finset.fold_max_le]
  refine and_congr_right fun _ => ⟨fun h r l => h _ (Finset.mem_filter.mpr ⟨Finset.mem_univ _, one_idx _ _⟩), fun h i _ => ?_⟩
  have hi : i = ix3 (0 : Fin 1) (i 1 : Fin (sz k)) (i 2 : Fin 1024) := by
    funext a
    match a with
    | ⟨0, _⟩ => exact Subsingleton.elim (α := Fin 1) _ _
    | ⟨1, _⟩ => rfl
    | ⟨2, _⟩ => rfl
  rw [hi]
  exact h _ _

theorem kQuant_at (k : Fin 8) (v : Vec Ideal (BS k) .f32) (r : Fin (sz k)) (l : Fin 1024) :
    kQuant k v (ix2 r l) = Ideal.fptosi 8 (min topI (max lowI (Ideal.liftRound Ideal.roundHalfEven (v (ix3 0 r l) * Ideal.div topI (max (kPeak k v) tinyI))))) := by
  unfold kQuant
  rw [shapeCast_self, ← kScale_eq, ← flat_at k v r l]
  rfl

theorem kOut_at (k : Fin 8) (v : Vec Ideal (BS k) .f32) (r : Fin (sz k)) (l : Fin 1024) :
    kOut k (fun _ => kScale k v) (kQuant k v) (ix3 0 r l) = cell (kPeak k v) (v (ix3 0 r l)) := by
  unfold kOut
  rw [block_at]
  show ((((kQuant k v (ix2 r l)).toInt : ℝ) : EReal) * (kScale k v * invI) : EReal) = _
  rw [kQuant_at, kScale_eq]
  rfl

/-! ## The two largest magnitudes -/

theorem inRows : ∀ k : Fin 8, lo k + sz k ≤ 2048 := by decide

theorem tops_row (t : FVec Ideal Cert.ReferenceIdeal.S8x2048 .f32) (j k : Fin 8) (q : Fin 2048)
    (h1 : lo k ≤ q.val) (h2 : q.val < lo k + sz k) :
    Ref.tops t (ix2 j q) = peak t j (lo k) (sz k) (inRows k) := by
  rw [Ref.tops_ladder]
  match k with
  | ⟨0, _⟩ => have h1 : 0 ≤ q.val := h1; have h2 : q.val < 64 := h2; rw [if_pos (by omega)]; rfl
  | ⟨1, _⟩ => have h1 : 64 ≤ q.val := h1; have h2 : q.val < 192 := h2; rw [if_neg (by omega), if_pos (by omega)]; rfl
  | ⟨2, _⟩ => have h1 : 192 ≤ q.val := h1; have h2 : q.val < 448 := h2; rw [if_neg (by omega), if_neg (by omega), if_pos (by omega)]; rfl
  | ⟨3, _⟩ => have h1 : 448 ≤ q.val := h1; have h2 : q.val < 832 := h2; rw [if_neg (by omega), if_neg (by omega), if_neg (by omega), if_pos (by omega)]; rfl
  | ⟨4, _⟩ => have h1 : 832 ≤ q.val := h1; have h2 : q.val < 1280 := h2; rw [if_neg (by omega), if_neg (by omega), if_neg (by omega), if_neg (by omega), if_pos (by omega)]; rfl
  | ⟨5, _⟩ => have h1 : 1280 ≤ q.val := h1; have h2 : q.val < 1664 := h2; rw [if_neg (by omega), if_neg (by omega), if_neg (by omega), if_neg (by omega), if_neg (by omega), if_pos (by omega)]; rfl
  | ⟨6, _⟩ => have h1 : 1664 ≤ q.val := h1; have h2 : q.val < 1920 := h2; rw [if_neg (by omega), if_neg (by omega), if_neg (by omega), if_neg (by omega), if_neg (by omega), if_neg (by omega), if_pos (by omega)]; rfl
  | ⟨7, _⟩ => have h1 : 1920 ≤ q.val := h1; have h2 : q.val < 2048 := h2; rw [if_neg (by omega), if_neg (by omega), if_neg (by omega), if_neg (by omega), if_neg (by omega), if_neg (by omega), if_neg (by omega)]; rfl

theorem tops_at (t : FVec Ideal Cert.ReferenceIdeal.S8x2048 .f32) (j k : Fin 8) (r : Fin (sz k)) :
    Ref.tops t (ix2 j ⟨lo k + r.val, by have := inRows k; omega⟩) = peak t j (lo k) (sz k) (inRows k) :=
  tops_row t j k _ (Nat.le_add_right _ _) (Nat.add_lt_add_left r.isLt _)

/-- By rows and then over the rows, or at once: the same largest magnitude. -/
theorem peak_eq (y : FVec Ideal Cert.ReferenceIdeal.S8x2048x1024 .f32) (j k : Fin 8) (v : Vec Ideal (BS k) .f32)
    (hv : ∀ (r : Fin (sz k)) (l : Fin 1024), v (ix3 0 r l) = y (ix3 j ⟨lo k + r.val, by have := inRows k; omega⟩ l)) :
    peak (Ref.rows y) j (lo k) (sz k) (inRows k) = kPeak k v := by
  refine eq_of_forall_ge_iff fun b => ?_
  rw [kPeak_le]
  unfold peak
  rw [Finset.fold_max_le]
  refine and_congr_right fun hb => ⟨fun h r l => ?_, fun h r _ => ?_⟩
  · have h1 := h r (Finset.mem_univ _)
    rw [Ref.rows_at, Finset.fold_max_le] at h1
    rw [hv]
    exact h1.2 l (Finset.mem_univ _)
  · rw [Ref.rows_at, Finset.fold_max_le]
    refine ⟨hb, fun l _ => ?_⟩
    rw [← hv]
    exact h r l

/-! ## The result -/

variable (m : (ℓ : Loc nD τ sig) → Buf (Elt Ideal) ℓ)

theorem X_at (c : Dev nD) (k : Fin 8) (r : Fin (sz k)) (l : Fin 1024) :
    X m c k (ix3 0 r l) = (m ((c : Thread nD τ).loc main_arg0) : Vec Ideal S1x2048x1024 .f32) (ix3 0 ⟨lo k + r.val, by have := inRows k; omega⟩ l) := by
  unfold X
  show (m ((c : Thread nD τ).loc main_arg0)) _ = _
  congr 1
  funext a
  match a with
  | ⟨0, _⟩ => exact Subsingleton.elim (α := Fin 1) _ _
  | ⟨1, _⟩ => exact Fin.ext (by show lo k + 1 * r.val = lo k + r.val; omega)
  | ⟨2, _⟩ => exact Fin.ext (by show 0 + 1 * l.val = l.val; omega)

theorem good_at (n : Fin 8) (c : Dev nD) (g : Buf (Elt Ideal) ((c : Thread nD τ).loc main_v1)) (hg : Good m (roll n) c g) (k : Fin 8) (r : Fin (sz k)) (l : Fin 1024) :
    (g : Vec Ideal S1x2048x1024 .bf16) (ix3 0 ⟨lo k + r.val, by have := inRows k; omega⟩ l) = outK m (roll n) c k (ix3 0 r l) := by
  rw [← hg k]
  show _ = g _
  congr 1
  funext a
  match a with
  | ⟨0, _⟩ => exact Subsingleton.elim (α := Fin 1) _ _
  | ⟨1, _⟩ => exact Fin.ext (by show lo k + r.val = lo k + 1 * r.val; omega)
  | ⟨2, _⟩ => exact Fin.ext (by show l.val = 0 + 1 * l.val; omega)

/-- An element of a device's block, in the whole array. -/
theorem block_at3 {α : Type} (x : Cert.ReferenceIdeal.S8x2048x1024.Idx → α) (c : Fin 8) (r : Fin 2048) (l : Fin 1024) :
    (Layout.block ⟨3, ![1, 2048, 1024]⟩ ⟨3, ![8, 2048, 1024]⟩ 0 8 c x) (ix3 (0 : Fin 1) r l) = x (ix3 c r l) := by
  rw [Layout.block_apply]
  congr 1
  funext a
  match a with
  | ⟨0, _⟩ => exact Fin.ext (by show c.val * 1 + 0 = c.val; omega)
  | ⟨1, _⟩ => rfl
  | ⟨2, _⟩ => rfl

/-- What device `c`'s result holds is row block `c` of the reference's. -/
theorem result_eq (n : Fin 8) (x : FVec Ideal Cert.ReferenceIdeal.S8x2048x1024 .f32)
    (hx : ∀ c : Dev nD, m ((c : Thread nD τ).loc main_arg0) = Layout.block ⟨3, ![1, 2048, 1024]⟩ ⟨3, ![8, 2048, 1024]⟩ 0 8 c x)
    (c : Dev nD) (g : Buf (Elt Ideal) ((c : Thread nD τ).loc main_v1)) (hg : Good m (roll n) c g) :
    g = Layout.block ⟨3, ![1, 2048, 1024]⟩ ⟨3, ![8, 2048, 1024]⟩ 0 8 c (Ref.quantised (Ref.picked x (Ref.tableOf n))) := by
  have hX (k : Fin 8) (r : Fin (sz k)) (l : Fin 1024) : X m ((roll n).symm c) k (ix3 0 r l)
      = Ref.picked x (Ref.tableOf n) (ix3 (c : Fin 8) ⟨lo k + r.val, by have := inRows k; omega⟩ l) := by
    rw [X_at, hx, Ref.picked_at]
    exact block_at3 x (c + n : Fin 8) _ l
  refine funext fun i => ?_
  obtain ⟨k, h1, h2⟩ := row_in (i 1).val (i 1).isLt
  obtain ⟨r, l, hi⟩ : ∃ (r : Fin (sz k)) (l : Fin 1024), i = ix3 (0 : Fin 1) ⟨lo k + r.val, by have := inRows k; omega⟩ l := by
    refine ⟨⟨(i 1).val - lo k, by omega⟩, i 2, funext fun a => ?_⟩
    match a with
    | ⟨0, _⟩ => exact Subsingleton.elim (α := Fin 1) _ _
    | ⟨1, _⟩ => exact Fin.ext (by show (i 1).val = lo k + ((i 1).val - lo k); omega)
    | ⟨2, _⟩ => rfl
  rw [hi]
  refine (good_at m n c g hg k r l).trans ?_
  refine Eq.trans ?_ (block_at3 (Ref.quantised (Ref.picked x (Ref.tableOf n))) c _ l).symm
  unfold outK
  rw [kOut_at, Ref.quantised_at, tops_at, peak_eq _ _ _ _ (hX k), hX]

end Cert.PermProof

end
-- ==== Proof.Claims.lean ====
/-
# The value claims

The two runs are joined: the reference's result is the quantised pick of its argument, and each device of the kernel ends
with its block of the same array. One lemma for a roll by any `n`, then the seven claims.
-/
module

public import proofs.«01_k».proof.Proof.Value

@[expose] public section

noncomputable section

namespace Cert.PermProof

open Cert.KernelIdeal Cert.KernelIdeal.Gen
open Idealize.ShloMosaic Idealize.ShloMosaic.TcCoe Idealize.SL.Sem

/-- A table that reads as a roll is the roll's table. -/
theorem Rolled.table {n : Fin 8} {p : IVec S8 32} (h : Rolled n p) : p = Ref.tableOf n := by
  funext i
  refine Eq.trans (congrArg p ?_) (h (i 0))
  funext a
  match a with
  | ⟨0, _⟩ => rfl

variable (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ)
    (g' : Dev Cert.ReferenceIdeal.nD → PrngReg)

theorem agree (n : Fin 8) (h : ∀ c : Dev nD, Rolled n (m ((c : Thread nD τ).loc main_arg1)))
    (hm : ∀ c : Dev nD,
      m ((c.tc : Thread nD τ).loc main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v60)),
      θ_run (defs (F := Ideal)) (onTc (τ := τ) (main (F := Ideal))) ⟨m, fun _ => 0, g⟩ (fun r => ∀ c : Dev nD,
          r.2.mem ((c.tc : Thread nD τ).loc main_v1) = Layout.block ⟨3, ![1, 2048, 1024]⟩ ⟨3, ![8, 2048, 1024]⟩ 0 8 c v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have ht : m' (((0 : Dev Cert.ReferenceIdeal.nD).tc : Thread Cert.ReferenceIdeal.nD Cert.ReferenceIdeal.τ).loc Cert.ReferenceIdeal.main_arg1) = Ref.tableOf n :=
    (hm (0 : Fin 8)).2.symm.trans (h (0 : Fin 8)).table
  refine ⟨Ref.quantised (F := Ideal) (Ref.picked (m' (((0 : Dev Cert.ReferenceIdeal.nD).tc : Thread Cert.ReferenceIdeal.nD Cert.ReferenceIdeal.τ).loc Cert.ReferenceIdeal.main_arg0)) (Ref.tableOf n)), ?_, ?_⟩
  · exact (θ_run defs _ _).mono (fun _ hr c => ⟨result_eq m n _ (fun c => (hm c).1) c _ (hr.1 c).2.2, (hr.1 c).1, (hr.1 c).2.1⟩) (run_roll m g n h)
  · refine (θ_run Cert.ReferenceIdeal.defs _ _).mono (fun _ hr => ⟨(hr 0).1.trans ?_, (hr 0).2.1, (hr 0).2.2⟩) (Ref.run m' g')
    rw [ht]

/-! ## The claims -/

theorem agree_1 : Cert.algebraic_KernelIdeal_ReferenceIdeal := fun m g m' g' h => agree m g m' g' 1 fun c => rolled_1 _ _ (h c)
theorem agree_2 : Cert.algebraic_KernelIdeal_ReferenceIdeal_pre_rolled_by_2_Kernel := fun m g m' g' h => agree m g m' g' 2 fun c => rolled_2 _ _ (h c)
theorem agree_3 : Cert.algebraic_KernelIdeal_ReferenceIdeal_pre_rolled_by_3_Kernel := fun m g m' g' h => agree m g m' g' 3 fun c => rolled_3 _ _ (h c)
theorem agree_4 : Cert.algebraic_KernelIdeal_ReferenceIdeal_pre_rolled_by_4_Kernel := fun m g m' g' h => agree m g m' g' 4 fun c => rolled_4 _ _ (h c)
theorem agree_5 : Cert.algebraic_KernelIdeal_ReferenceIdeal_pre_rolled_by_5_Kernel := fun m g m' g' h => agree m g m' g' 5 fun c => rolled_5 _ _ (h c)
theorem agree_6 : Cert.algebraic_KernelIdeal_ReferenceIdeal_pre_rolled_by_6_Kernel := fun m g m' g' h => agree m g m' g' 6 fun c => rolled_6 _ _ (h c)
theorem agree_7 : Cert.algebraic_KernelIdeal_ReferenceIdeal_pre_rolled_by_7_Kernel := fun m g m' g' h => agree m g m' g' 7 fun c => rolled_7 _ _ (h c)

end Cert.PermProof

end
-- ==== Proof.lean ====
/-
# The certificate

Every claim is proved in a module of its own: the frames of the kernel in `Frames`, those of the reference in `Reference`,
the values in `Claims`. Here they are put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_rolled_by_1_Kernel
public import proofs.«01_k».proof.Proof.Gen.Pre_rolled_by_2_Kernel
public import proofs.«01_k».proof.Proof.Gen.Pre_rolled_by_3_Kernel
public import proofs.«01_k».proof.Proof.Gen.Pre_rolled_by_4_Kernel
public import proofs.«01_k».proof.Proof.Gen.Pre_rolled_by_5_Kernel
public import proofs.«01_k».proof.Proof.Gen.Pre_rolled_by_6_Kernel
public import proofs.«01_k».proof.Proof.Gen.Pre_rolled_by_7_Kernel
public import proofs.«01_k».proof.Proof.Gen.Pre_rolled_by_1_ReferenceIdeal
public import proofs.«01_k».proof.Proof.Gen.Pre_rolled_by_2_ReferenceIdeal
public import proofs.«01_k».proof.Proof.Gen.Pre_rolled_by_3_ReferenceIdeal
public import proofs.«01_k».proof.Proof.Gen.Pre_rolled_by_4_ReferenceIdeal
public import proofs.«01_k».proof.Proof.Gen.Pre_rolled_by_5_ReferenceIdeal
public import proofs.«01_k».proof.Proof.Gen.Pre_rolled_by_6_ReferenceIdeal
public import proofs.«01_k».proof.Proof.Gen.Pre_rolled_by_7_ReferenceIdeal
public import proofs.«01_k».proof.Proof.Claims

@[expose] public section

noncomputable section

namespace Cert.Proof

open Cert.PermProof

theorem claim : Cert.Claim := ⟨Cert.Kernel.Gen.facts,
  Cert.KernelIdeal.Gen.facts,
  Cert.ReferenceIdeal.Gen.facts,
  Cert.Pre_rolled_by_1_Kernel.Gen.facts,
  Cert.Pre_rolled_by_2_Kernel.Gen.facts,
  Cert.Pre_rolled_by_3_Kernel.Gen.facts,
  Cert.Pre_rolled_by_4_Kernel.Gen.facts,
  Cert.Pre_rolled_by_5_Kernel.Gen.facts,
  Cert.Pre_rolled_by_6_Kernel.Gen.facts,
  Cert.Pre_rolled_by_7_Kernel.Gen.facts,
  Cert.Pre_rolled_by_1_ReferenceIdeal.Gen.facts,
  Cert.Pre_rolled_by_2_ReferenceIdeal.Gen.facts,
  Cert.Pre_rolled_by_3_ReferenceIdeal.Gen.facts,
  Cert.Pre_rolled_by_4_ReferenceIdeal.Gen.facts,
  Cert.Pre_rolled_by_5_ReferenceIdeal.Gen.facts,
  Cert.Pre_rolled_by_6_ReferenceIdeal.Gen.facts,
  Cert.Pre_rolled_by_7_ReferenceIdeal.Gen.facts,
  frame_1, frame_2, frame_3, frame_4, frame_5, frame_6, frame_7,
  ideal_1, ideal_2, ideal_3, ideal_4, ideal_5, ideal_6, ideal_7,
  Ref.frame, Ref.frame_1, Ref.frame_2, Ref.frame_3, Ref.frame_4, Ref.frame_5, Ref.frame_6, Ref.frame_7,
  trivial,
  agree_1, agree_2, agree_3, agree_4, agree_5, agree_6, agree_7⟩

end Cert.Proof

end
